-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_finite [hPre_attention_finite : Cert.Pre_attention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_finite [hPre_attention_finite : Cert.Pre_attention_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_attention_finite [hKernelIdeal : Cert.KernelIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_attention_finite [hReferenceIdeal : Cert.ReferenceIdeal.Facts] [hPre_attention_finite : Cert.Pre_attention_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_attention_finite [hKernelIdeal : Cert.KernelIdeal.Facts] [hReferenceIdeal : Cert.ReferenceIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_attention_finite : Cert.Pre_attention_finite.Facts),
    quiescent_Kernel (hKernel := hKernel)
    ∧ quiescent_KernelIdeal (hKernelIdeal := hKernelIdeal)
    ∧ quiescent_KernelIdeal_pre_attention_finite (hKernelIdeal := hKernelIdeal) (hPre_attention_finite := hPre_attention_finite)
    ∧ quiescent_ReferenceIdeal (hReferenceIdeal := hReferenceIdeal)
    ∧ quiescent_ReferenceIdeal_pre_attention_finite (hReferenceIdeal := hReferenceIdeal) (hPre_attention_finite := hPre_attention_finite)
    ∧ preserves_Kernel_KernelIdeal
    ∧ algebraic_KernelIdeal_ReferenceIdeal_pre_attention_finite (hKernelIdeal := hKernelIdeal) (hReferenceIdeal := hReferenceIdeal) (hPre_attention_finite := hPre_attention_finite)
-- ==== Pre_attention_finite.lean ====
abbrev S2x30x1000x8 : Shape := ⟨4, ![2, 30, 1000, 8]⟩
abbrev S2x30x1000x1000 : Shape := ⟨4, ![2, 30, 1000, 1000]⟩
abbrev S8x8 : Shape := ⟨2, ![8, 8]⟩
abbrev S8 : Shape := ⟨1, ![8]⟩
abbrev S512x8000 : Shape := ⟨2, ![512, 8000]⟩
abbrev S512x128 : Shape := ⟨2, ![512, 128]⟩
abbrev S512 : Shape := ⟨1, ![512]⟩
abbrev S128x1000 : Shape := ⟨2, ![128, 1000]⟩
abbrev S1000 : Shape := ⟨1, ![1000]⟩
abbrev S_ : Shape := ⟨0, ![]⟩

class Facts : Prop where
  bcast_S_S2x30x1000x8 : S_.BroadcastsInDim S2x30x1000x8 (![] : Fin 0 → Fin S2x30x1000x8.rank)
  bcast_S_S8x8 : S_.BroadcastsInDim S8x8 (![] : Fin 0 → Fin S8x8.rank)
  bcast_S_S8 : S_.BroadcastsInDim S8 (![] : Fin 0 → Fin S8.rank)

variable [Facts]

def fn {F : FTy → Type} [FloatOps F] (main_arg0 : FVec F S2x30x1000x8 .f32) (main_arg1 : FVec F S2x30x1000x1000 .f32) (main_arg2 : FVec F S8x8 .f32) (main_arg3 : FVec F S8 .f32) (main_arg4 : FVec F S8 .f32) (main_arg5 : FVec F S8 .f32) (main_arg6 : FVec F S512x8000 .f32) (main_arg7 : FVec F S512x128 .f32) (main_arg8 : FVec F S512 .f32) (main_arg9 : FVec F S512 .f32) (main_arg10 : FVec F S128x1000 .f32) (main_arg11 : FVec F S1000 .f32) : IVec S2x30x1000x8 1 × IVec S8x8 1 × IVec S8 1 × IVec S8 1 :=
  let main_v0 : FVec F S2x30x1000x8 .f32 := Host.absf main_arg0
  let main_cst : FVec F S_ .f32 := constant S_ .f32 0x7F800000#32
  let main_v1 : FVec F S2x30x1000x8 .f32 := broadcastInDim S2x30x1000x8 ![] bcast_S_S2x30x1000x8 main_cst
  let main_v2 : IVec S2x30x1000x8 1 := cmpf .olt main_v0 main_v1
  let main_v3 : FVec F S8x8 .f32 := Host.absf main_arg2
  let main_cst_0 : FVec F S_ .f32 := constant S_ .f32 0x7F800000#32
  let main_v4 : FVec F S8x8 .f32 := broadcastInDim S8x8 ![] bcast_S_S8x8 main_cst_0
  let main_v5 : IVec S8x8 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Kernel.lean ====
abbrev S2x30x1000x8 : Shape := ⟨4, ![2, 30, 1000, 8]⟩
abbrev S2x30x1000x1000 : Shape := ⟨4, ![2, 30, 1000, 1000]⟩
abbrev S8x8 : Shape := ⟨2, ![8, 8]⟩
abbrev S8 : Shape := ⟨1, ![8]⟩
abbrev S512x8000 : Shape := ⟨2, ![512, 8000]⟩
abbrev S512x128 : Shape := ⟨2, ![512, 128]⟩
abbrev S512 : Shape := ⟨1, ![512]⟩
abbrev S128x1000 : Shape := ⟨2, ![128, 1000]⟩
abbrev S1000 : Shape := ⟨1, ![1000]⟩
abbrev S1x8 : Shape := ⟨2, ![1, 8]⟩
abbrev S30x2x1000x8 : Shape := ⟨4, ![30, 2, 1000, 8]⟩
abbrev S60x8000 : Shape := ⟨2, ![60, 8000]⟩
abbrev S1x512 : Shape := ⟨2, ![1, 512]⟩
abbrev S1x1000 : Shape := ⟨2, ![1, 1000]⟩
abbrev S2x1000 : Shape := ⟨2, ![2, 1000]⟩
abbrev S1x5x1000x8 : Shape := ⟨4, ![1, 5, 1000, 8]⟩
abbrev S1x5x1000x1000 : Shape := ⟨4, ![1, 5, 1000, 1000]⟩
abbrev S5x1x1000x8 : Shape := ⟨4, ![5, 1, 1000, 8]⟩
abbrev S1x1x1000x8 : Shape := ⟨4, ![1, 1, 1000, 8]⟩
abbrev S1000x8 : Shape := ⟨2, ![1000, 8]⟩
abbrev S1000x1 : Shape := ⟨2, ![1000, 1]⟩
abbrev S1x1000x1 : Shape := ⟨3, ![1, 1000, 1]⟩
abbrev S1 : Shape := ⟨1, ![1]⟩
abbrev S1x1x1 : Shape := ⟨3, ![1, 1, 1]⟩
abbrev S1x1x1000 : Shape := ⟨3, ![1, 1, 1000]⟩
abbrev S1x1x1000x1000 : Shape := ⟨4, ![1, 1, 1000, 1000]⟩
abbrev S1000x1000 : Shape := ⟨2, ![1000, 1000]⟩
abbrev S1000x9 : Shape := ⟨2, ![1000, 9]⟩
abbrev S128x8000 : Shape := ⟨2, ![128, 8000]⟩
abbrev S60x512 : Shape := ⟨2, ![60, 512]⟩
abbrev S60x128 : Shape := ⟨2, ![60, 128]⟩
abbrev S2x128 : Shape := ⟨2, ![2, 128]⟩
abbrev S2x512 : Shape := ⟨2, ![2, 512]⟩

abbrev nBuf : Space → Nat
  | .hbm => 21
  | .vmem => 19
  | .smem => 0
  | _ => 0

abbrev bufTy : (tb : Table) → Fin (tcTables nBuf tb) → BufTy
  | .hbm, ⟨0, _⟩ => ⟨S2x30x1000x8, .f32⟩
  | .hbm, ⟨1, _⟩ => ⟨S2x30x1000x1000, .f32⟩
  | .hbm, ⟨2, _⟩ => ⟨S8x8, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512x8000, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S128x1000, .f32⟩
  | .hbm, ⟨11, _⟩ => ⟨S1000, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S30x2x1000x8, .bf16⟩
  | .hbm, ⟨16, _⟩ => ⟨S60x8000, .bf16⟩
  | .hbm, ⟨17, _⟩ => ⟨S512, .f32⟩
  | .hbm, ⟨18, _⟩ => ⟨S1x512, .f32⟩
  | .hbm, ⟨19, _⟩ => ⟨S1x1000, .f32⟩
  | .hbm, ⟨20, _⟩ => ⟨S2x1000, .f32⟩
  | .local _ .vmem, ⟨0, _⟩ => ⟨S1x5x1000x8, .f32⟩
  | .local _ .vmem, ⟨1, _⟩ => ⟨S1x5x1000x8, .f32⟩
  | .local _ .vmem, ⟨2, _⟩ => ⟨S1x5x1000x1000, .f32⟩
  | .local _ .vmem, ⟨3, _⟩ => ⟨S1x5x1000x1000, .f32⟩
  | .local _ .vmem, ⟨4, _⟩ => ⟨S8x8, .f32⟩
  | .local _ .vmem, ⟨5, _⟩ => ⟨S1x8, .f32⟩
  | .local _ .vmem, ⟨6, _⟩ => ⟨S1x8, .f32⟩
  | .local _ .vmem, ⟨7, _⟩ => ⟨S1x8, .f32⟩
  | .local _ .vmem, ⟨8, _⟩ => ⟨S5x1x1000x8, .bf16⟩
  | .local _ .vmem, ⟨9, _⟩ => ⟨S5x1x1000x8, .bf16⟩
  | .local _ .vmem, ⟨10, _⟩ => ⟨S60x8000, .bf16⟩
  | .local _ .vmem, ⟨11, _⟩ => ⟨S128x8000, .f32⟩
  | .local _ .vmem, ⟨12, _⟩ => ⟨S128x8000, .f32⟩
  | .local _ .vmem, ⟨13, _⟩ => ⟨S512x128, .f32⟩
  | .local _ .vmem, ⟨14, _⟩ => ⟨S1x512, .f32⟩
  | .local _ .vmem, ⟨15, _⟩ => ⟨S128x1000, .f32⟩
  | .local _ .vmem, ⟨16, _⟩ => ⟨S1x1000, .f32⟩
  | .local _ .vmem, ⟨17, _⟩ => ⟨S2x1000, .f32⟩
  | .local _ .vmem, ⟨18, _⟩ => ⟨S60x512, .f32⟩
  | _, _ => ⟨S2x30x1000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17

abbrev nD : Nat := 1
abbrev τ : Topo := Topo.v7x

variable {F : FTy → Type} [FloatOps F]

abbrev grid0 : Pipeline.Grid := ⟨2, ![2, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x5x1000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S5x1x1000x8 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![4], ![false]⟩

def k1_cond5 (i : grid1.Coords) : BitVec 1 :=
  let arg0 : BitVec 32 := BitVec.ofNat 32 (i 0).val
  let c3_i32_7 : BitVec 32 := 3#32
  let v17 : BitVec 1 := Scalar.cmpi .eq arg0 c3_i32_7
  let v18 : BitVec 32 := Scalar.extui v17
  let c0_i32_8 : BitVec 32 := 0#32
  let v19 : BitVec 1 := Scalar.cmpi .ne v18 c0_i32_8
  v19

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S60x8000 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x8000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x1000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S2x30x1000x8 : Shape := ⟨4, ![2, 30, 1000, 8]⟩
abbrev S2x30x1000x1000 : Shape := ⟨4, ![2, 30, 1000, 1000]⟩
abbrev S8x8 : Shape := ⟨2, ![8, 8]⟩
abbrev S8 : Shape := ⟨1, ![8]⟩
abbrev S512x8000 : Shape := ⟨2, ![512, 8000]⟩
abbrev S512x128 : Shape := ⟨2, ![512, 128]⟩
abbrev S512 : Shape := ⟨1, ![512]⟩
abbrev S128x1000 : Shape := ⟨2, ![128, 1000]⟩
abbrev S1000 : Shape := ⟨1, ![1000]⟩
abbrev S2x30x1000 : Shape := ⟨3, ![2, 30, 1000]⟩
abbrev S2x30x1000x1 : Shape := ⟨4, ![2, 30, 1000, 1]⟩
abbrev S2x30x1x1000 : Shape := ⟨4, ![2, 30, 1, 1000]⟩
abbrev S_ : Shape := ⟨0, ![]⟩
abbrev S1000x1000 : Shape := ⟨2, ![1000, 1000]⟩
abbrev S1x1x1000x1000 : Shape := ⟨4, ![1, 1, 1000, 1000]⟩
abbrev S1x1x1x8 : Shape := ⟨4, ![1, 1, 1, 8]⟩
abbrev S2x30x8000 : Shape := ⟨3, ![2, 30, 8000]⟩
abbrev S2x128 : Shape := ⟨2, ![2, 128]⟩
abbrev S30x2x8000 : Shape := ⟨3, ![30, 2, 8000]⟩
abbrev S30x2x128 : Shape := ⟨3, ![30, 2, 128]⟩
abbrev S1x2x8000 : Shape := ⟨3, ![1, 2, 8000]⟩
abbrev S2x8000 : Shape := ⟨2, ![2, 8000]⟩
abbrev S8000x512 : Shape := ⟨2, ![8000, 512]⟩
abbrev S2x512 : Shape := ⟨2, ![2, 512]⟩
abbrev S128x512 : Shape := ⟨2, ![128, 512]⟩
abbrev S1x512 : Shape := ⟨2, ![1, 512]⟩
abbrev S1x2x128 : Shape := ⟨3, ![1, 2, 128]⟩
abbrev S2x1000 : Shape := ⟨2, ![2, 1000]⟩
abbrev S1x1000 : Shape := ⟨2, ![1, 1000]⟩

abbrev nBuf : Space → Nat
  | .hbm => 141
  | .vmem => 0
  | .smem => 0
  | _ => 0

abbrev hbmTy0_0 (i : Nat) : BufTy := match i % 128 with
  | 0 => ⟨S2x30x1000x8, .f32⟩
  | 1 => ⟨S2x30x1000x1000, .f32⟩
  | 2 => ⟨S8x8, .f32⟩
  | 3 => ⟨S8, .f32⟩
  | 4 => ⟨S8, .f32⟩
  | 5 => ⟨S8, .f32⟩
  | 6 => ⟨S512x8000, .f32⟩
  | 7 => ⟨S512x128, .f32⟩
  | 8 => ⟨S512, .f32⟩
  | 9 => ⟨S512, .f32⟩
  | 10 => ⟨S128x1000, .f32⟩
  | 11 => ⟨S1000, .f32⟩
  | 12 => ⟨S2x30x1000x8, .f32⟩
  | 13 => ⟨S2x30x1000, .f32⟩
  | 14 => ⟨S2x30x1000, .f32⟩
  | 15 => ⟨S2x30x1000x1, .f32⟩
  | 16 => ⟨S2x30x1x1000, .f32⟩
  | 17 => ⟨S2x30x1000x1000, .f32⟩
  | 18 => ⟨S2x30x1000x1000, .f32⟩
  | 19 => ⟨S2x30x1000x1000, .f32⟩
  | 20 => ⟨S_, .f32⟩
  | 21 => ⟨S2x30x1000x1000, .f32⟩
  | 22 => ⟨S2x30x1000x1000, .i1⟩
  | 23 => ⟨S_, .f32⟩
  | 24 => ⟨S2x30x1000x1000, .f32⟩
  | 25 => ⟨S2x30x1000x1000, .f32⟩
  | 26 => ⟨S2x30x1000x1000, .f32⟩
  | 27 => ⟨S_, .f32⟩
  | 28 => ⟨S2x30x1000x1000, .f32⟩
  | 29 => ⟨S2x30x1000x1000, .i1⟩
  | 30 => ⟨S2x30x1000x1000, .i1⟩
  | 31 => ⟨S1000x1000, .i32⟩
  | 32 => ⟨S1000x1000, .i32⟩
  | 33 => ⟨S_, .i32⟩
  | 34 => ⟨S1000x1000, .i32⟩
  | 35 => ⟨S1000x1000, .i32⟩
  | 36 => ⟨S1000x1000, .i1⟩
  | 37 => ⟨S1x1x1000x1000, .i1⟩
  | 38 => ⟨S2x30x1000x1000, .i1⟩
  | 39 => ⟨S2x30x1000x1000, .i1⟩
  | 40 => ⟨S_, .f32⟩
  | 41 => ⟨S_, .f32⟩
  | 42 => ⟨S2x30x1000x1000, .f32⟩
  | 43 => ⟨S2x30x1000x1000, .f32⟩
  | 44 => ⟨S_, .f32⟩
  | 45 => ⟨S2x30x1000, .f32⟩
  | 46 => ⟨S_, .f32⟩
  | 47 => ⟨S2x30x1000, .f32⟩
  | 48 => ⟨S2x30x1000, .f32⟩
  | 49 => ⟨S2x30x1000x1, .f32⟩
  | 50 => ⟨S2x30x1000x1000, .f32⟩
  | 51 => ⟨S2x30x1000x1000, .f32⟩
  | 52 => ⟨S2x30x1000x1000, .f32⟩
  | 53 => ⟨S_, .f32⟩
  | 54 => ⟨S2x30x1000, .f32⟩
  | 55 => ⟨S2x30x1000x1, .f32⟩
  | 56 => ⟨S2x30x1000x1000, .f32⟩
  | 57 => ⟨S2x30x1000x1000, .f32⟩
  | 58 => ⟨S2x30x1000x8, .f32⟩
  | 59 => ⟨S1x1x1x8, .f32⟩
  | 60 => ⟨S2x30x1000x8, .f32⟩
  | 61 => ⟨S2x30x1000x8, .f32⟩
  | 62 => ⟨S2x30x8000, .f32⟩
  | 63 => ⟨S_, .f32⟩
  | 64 => ⟨S2x128, .f32⟩
  | 65 => ⟨S_, .f32⟩
  | 66 => ⟨S2x128, .f32⟩
  | 67 => ⟨S30x2x8000, .f32⟩
  | 68 => ⟨S_, .f32⟩
  | 69 => ⟨S30x2x128, .f32⟩
  | 70 => ⟨S_, .i32⟩
  | 71 => ⟨S30x2x8000, .f32⟩
  | 72 => ⟨S512x8000, .f32⟩
  | 73 => ⟨S512x128, .f32⟩
  | 74 => ⟨S512, .f32⟩
  | 75 => ⟨S512, .f32⟩
  | 76 => ⟨S_, .i32⟩
  | 77 => ⟨S2x128, .f32⟩
  | 78 => ⟨S2x128, .f32⟩
  | 79 => ⟨S30x2x128, .f32⟩
  | 80 => ⟨S_, .i32⟩
  | 81 => ⟨S_, .i1⟩
  | 82 => ⟨S_, .i32⟩
  | 83 => ⟨S_, .i32⟩
  | 84 => ⟨S1x2x8000, .f32⟩
  | 85 => ⟨S2x8000, .f32⟩
  | 86 => ⟨S8000x512, .f32⟩
  | 87 => ⟨S2x512, .f32⟩
  | 88 => ⟨S128x512, .f32⟩
  | 89 => ⟨S2x512, .f32⟩
  | 90 => ⟨S2x512, .f32⟩
  | 91 => ⟨S1x512, .f32⟩
  | 92 => ⟨S2x512, .f32⟩
  | 93 => ⟨S2x512, .f32⟩
  | 94 => ⟨S1x512, .f32⟩
  | 95 => ⟨S2x512, .f32⟩
  | 96 => ⟨S2x512, .f32⟩
  | 97 => ⟨S2x128, .f32⟩
  | 98 => ⟨S2x128, .f32⟩
  | 99 => ⟨S2x128, .f32⟩
  | 100 => ⟨S2x128, .f32⟩
  | 101 => ⟨S2x128, .f32⟩
  | 102 => ⟨S2x128, .f32⟩
  | 103 => ⟨S_, .f32⟩
  | 104 => ⟨S2x128, .f32⟩
  | 105 => ⟨S2x128, .f32⟩
  | 106 => ⟨S_, .f32⟩
  | 107 => ⟨S2x128, .f32⟩
  | 108 => ⟨S2x128, .f32⟩
  | 109 => ⟨S2x128, .f32⟩
  | 110 => ⟨S2x128, .f32⟩
  | 111 => ⟨S_, .f32⟩
  | 112 => ⟨S2x128, .f32⟩
  | 113 => ⟨S2x128, .f32⟩
  | 114 => ⟨S_, .f32⟩
  | 115 => ⟨S2x128, .f32⟩
  | 116 => ⟨S2x128, .f32⟩
  | 117 => ⟨S2x128, .f32⟩
  | 118 => ⟨S2x128, .f32⟩
  | 119 => ⟨S2x128, .f32⟩
  | 120 => ⟨S_, .f32⟩
  | 121 => ⟨S2x128, .f32⟩
  | 122 => ⟨S2x128, .f32⟩
  | 123 => ⟨S_, .f32⟩
  | 124 => ⟨S2x128, .f32⟩
  | 125 => ⟨S2x128, .f32⟩
  | 126 => ⟨S2x128, .f32⟩
  | 127 => ⟨S2x128, .f32⟩
  | _ => ⟨S2x30x1000x8, .f32⟩

abbrev hbmTy0_1 (i : Nat) : BufTy := match i % 128 with
  | 0 => ⟨S2x128, .f32⟩
  | 1 => ⟨S2x128, .f32⟩
  | 2 => ⟨S2x128, .f32⟩
  | 3 => ⟨S1x2x128, .f32⟩
  | 4 => ⟨S_, .i32⟩
  | 5 => ⟨S_, .i32⟩
  | 6 => ⟨S30x2x128, .f32⟩
  | 7 => ⟨S_, .i32⟩
  | 8 => ⟨S_, .i32⟩
  | 9 => ⟨S2x1000, .f32⟩
  | 10 => ⟨S1x1000, .f32⟩
  | 11 => ⟨S2x1000, .f32⟩
  | 12 => ⟨S2x1000, .f32⟩
  | _ => ⟨S2x30x1000x8, .f32⟩

abbrev hbmTy (i : Nat) : BufTy := match i / 128 with
  | 0 => hbmTy0_0 i
  | 1 => hbmTy0_1 i
  | _ => ⟨S2x30x1000x8, .f32⟩

abbrev bufTy : (tb : Table) → Fin (tcTables nBuf tb) → BufTy
  | .hbm, ⟨i, _⟩ => hbmTy i
  | _, _ => ⟨S2x30x1000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_c_9 : Ref sig .tc := ⟨.hbm, 70, rfl⟩
abbrev main_v45_0 : Ref sig .tc := ⟨.hbm, 71, rfl⟩
abbrev main_v45_1 : Ref sig .tc := ⟨.hbm, 72, rfl⟩
abbrev main_v45_2 : Ref sig .tc := ⟨.hbm, 73, rfl⟩
abbrev main_v45_3 : Ref sig .tc := ⟨.hbm, 74, rfl⟩
abbrev main_v45_4 : Ref sig .tc := ⟨.hbm, 75, rfl⟩
abbrev main_v45_5 : Ref sig .tc := ⟨.hbm, 76, rfl⟩
abbrev main_v45_6 : Ref sig .tc := ⟨.hbm, 77, rfl⟩
abbrev main_v45_7 : Ref sig .tc := ⟨.hbm, 78, rfl⟩
abbrev main_v45_8 : Ref sig .tc := ⟨.hbm, 79, rfl⟩
abbrev main_while0c_c_18 : Ref sig .tc := ⟨.hbm, 80, rfl⟩
abbrev main_while0c_v50 : Ref sig .tc := ⟨.hbm, 81, rfl⟩
abbrev main_while0b_call2_c : Ref sig .tc := ⟨.hbm, 82, rfl⟩
abbrev main_while0b_call2_c_0 : Ref sig .tc := ⟨.hbm, 83, rfl⟩
abbrev main_while0b_call2_v0 : Ref sig .tc := ⟨.hbm, 84, rfl⟩
abbrev main_while0b_v50 : Ref sig .tc := ⟨.hbm, 85, rfl⟩
abbrev main_while0b_v51 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_v61 : Ref sig .tc := ⟨.hbm, 96, rfl⟩
abbrev main_while0b_v62 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_cst_18 : Ref sig .tc := ⟨.hbm, 103, rfl⟩
abbrev main_while0b_v68 : Ref sig .tc := ⟨.hbm, 104, rfl⟩
abbrev main_while0b_v69 : Ref sig .tc := ⟨.hbm, 105, rfl⟩
abbrev main_while0b_cst_19 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_cst_20 : Ref sig .tc := ⟨.hbm, 111, rfl⟩
abbrev main_while0b_v74 : Ref sig .tc := ⟨.hbm, 112, rfl⟩
abbrev main_while0b_v75 : Ref sig .tc := ⟨.hbm, 113, rfl⟩
abbrev main_while0b_cst_21 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_cst_22 : Ref sig .tc := ⟨.hbm, 120, rfl⟩
abbrev main_while0b_v81 : Ref sig .tc := ⟨.hbm, 121, rfl⟩
abbrev main_while0b_v82 : Ref sig .tc := ⟨.hbm, 122, rfl⟩
abbrev main_while0b_cst_23 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_v86 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_call3_v0 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_v90 : Ref sig .tc := ⟨.hbm, 134, rfl⟩
abbrev main_while0b_c_24 : Ref sig .tc := ⟨.hbm, 135, rfl⟩
abbrev main_while0b_v91 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩

abbrev nD : Nat := 1
abbrev τ : Topo := Topo.v7x

variable {F : FTy → Type} [FloatOps F]

abbrev main_while0_count : Scf.Loop 32 := ⟨0#32, 30#32, 1#32⟩
-- ==== Proof.Region0.lean ====
/- Region 0 of the kernel's @main, `cc0__gat_kernel`: five graphs' attention at a time. The block each window holds at a
   grid point, what the body leaves in the output's buffer (each graph's block by ONE expression, `gatOut`, of that
   graph's features and adjacency), the body's triple, and the pipeline's proof data and obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__gat_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x5x1000x8 := Rect.unit (s := S1x5x1000x8) ![0, 0, 0, 0] S1x1x1000x8.size inb_S1x5x1000x8_S1x1x1000x8_0_0_0_0
abbrev r0_1 : Rect S8x8 := Rect.unit (s := S8x8) ![0, 0] S8x8.size inb_S8x8_S8x8_0_0
abbrev r0_2 : Rect S1x8 := Rect.unit (s := S1x8) ![0, 0] S1x8.size inb_S1x8_S1x8_0_0
abbrev r0_3 : Rect S1x5x1000x1000 := Rect.unit (s := S1x5x1000x1000) ![0, 0, 0, 0] S1x1x1000x1000.size inb_S1x5x1000x1000_S1x1x1000x1000_0_0_0_0
abbrev r0_4 : Rect S5x1x1000x8 := Rect.unit (s := S5x1x1000x8) ![0, 0, 0, 0] S1x1x1000x8.size inb_S5x1x1000x8_S1x1x1000x8_0_0_0_0
abbrev r0_5 : Rect S1x5x1000x8 := Rect.unit (s := S1x5x1000x8) ![0, 1, 0, 0] S1x1x1000x8.size inb_S1x5x1000x8_S1x1x1000x8_0_1_0_0
abbrev r0_6 : Rect S1x5x1000x1000 := Rect.unit (s := S1x5x1000x1000) ![0, 1, 0, 0] S1x1x1000x1000.size inb_S1x5x1000x1000_S1x1x1000x1000_0_1_0_0
abbrev r0_7 : Rect S5x1x1000x8 := Rect.unit (s := S5x1x1000x8) ![1, 0, 0, 0] S1x1x1000x8.size inb_S5x1x1000x8_S1x1x1000x8_1_0_0_0
abbrev r0_8 : Rect S1x5x1000x8 := Rect.unit (s := S1x5x1000x8) ![0, 2, 0, 0] S1x1x1000x8.size inb_S1x5x1000x8_S1x1x1000x8_0_2_0_0
abbrev r0_9 : Rect S1x5x1000x1000 := Rect.unit (s := S1x5x1000x1000) ![0, 2, 0, 0] S1x1x1000x1000.size inb_S1x5x1000x1000_S1x1x1000x1000_0_2_0_0
abbrev r0_10 : Rect S5x1x1000x8 := Rect.unit (s := S5x1x1000x8) ![2, 0, 0, 0] S1x1x1000x8.size inb_S5x1x1000x8_S1x1x1000x8_2_0_0_0
abbrev r0_11 : Rect S1x5x1000x8 := Rect.unit (s := S1x5x1000x8) ![0, 3, 0, 0] S1x1x1000x8.size inb_S1x5x1000x8_S1x1x1000x8_0_3_0_0
abbrev r0_12 : Rect S1x5x1000x1000 := Rect.unit (s := S1x5x1000x1000) ![0, 3, 0, 0] S1x1x1000x1000.size inb_S1x5x1000x1000_S1x1x1000x1000_0_3_0_0
abbrev r0_13 : Rect S5x1x1000x8 := Rect.unit (s := S5x1x1000x8) ![3, 0, 0, 0] S1x1x1000x8.size inb_S5x1x1000x8_S1x1x1000x8_3_0_0_0
abbrev r0_14 : Rect S1x5x1000x8 := Rect.unit (s := S1x5x1000x8) ![0, 4, 0, 0] S1x1x1000x8.size inb_S1x5x1000x8_S1x1x1000x8_0_4_0_0
abbrev r0_15 : Rect S1x5x1000x1000 := Rect.unit (s := S1x5x1000x1000) ![0, 4, 0, 0] S1x1x1000x1000.size inb_S1x5x1000x1000_S1x1x1000x1000_0_4_0_0
abbrev r0_16 : Rect S5x1x1000x8 := Rect.unit (s := S5x1x1000x8) ![4, 0, 0, 0] S1x1x1000x8.size inb_S5x1x1000x8_S1x1x1000x8_4_0_0_0

/-! ## What the body leaves in each output window's buffer -/

/-- One graph's attention layer, as the body's stored block: the features `x`, the adjacency `adj`, the weight `w`, the two
    attention vectors and the bias. (The body's five graphs are five copies of this expression, cut into parts at different
    places.) -/
def gatOut (x : Vec F S1x1x1000x8 .f32) (adj : Vec F S1x1x1000x1000 .f32) (w : Vec F S8x8 .f32) (asrc : Vec F S1x8 .f32) (adst : Vec F S1x8 .f32) (b : Vec F S1x8 .f32) : Vec F S1x1x1000x8 .bf16 :=
  k0_pay12 (k0_pay2 x w) (k0_pay3 x w asrc) (k0_pay4 x w adst) (k0_pay7 x w asrc) (k0_pay8 x w asrc) (k0_pay9 x w adst) (k0_pay10 x w adst) (k0_pay11 adj)
    (iota .tc S1000x1000 32 [0] iota_S1000x1000_d0_w32) b

/-- The output window's staging buffer after the body: its five stores, the last first, each graph's block by `gatOut`. -/
def out0_6 (x0 : Vec F S1x5x1000x8 .f32) (x1 : Vec F S1x5x1000x1000 .f32) (x2 : Vec F S8x8 .f32) (x3 : Vec F S1x8 .f32) (x4 : Vec F S1x8 .f32) (x5 : Vec F S1x8 .f32) : Vec F S5x1x1000x8 .bf16 :=
  View.canon [⟨r0_16, gatOut (View.ld x0 r0_14) (View.ld x1 r0_15) (View.ld x2 r0_1) (View.ld x3 r0_2) (View.ld x4 r0_2) (View.ld x5 r0_2)⟩,
    ⟨r0_13, gatOut (View.ld x0 r0_11) (View.ld x1 r0_12) (View.ld x2 r0_1) (View.ld x3 r0_2) (View.ld x4 r0_2) (View.ld x5 r0_2)⟩,
    ⟨r0_10, gatOut (View.ld x0 r0_8) (View.ld x1 r0_9) (View.ld x2 r0_1) (View.ld x3 r0_2) (View.ld x4 r0_2) (View.ld x5 r0_2)⟩,
    ⟨r0_7, gatOut (View.ld x0 r0_5) (View.ld x1 r0_6) (View.ld x2 r0_1) (View.ld x3 r0_2) (View.ld x4 r0_2) (View.ld x5 r0_2)⟩,
    ⟨r0_4, gatOut (View.ld x0 r0_0) (View.ld x1 r0_3) (View.ld x2 r0_1) (View.ld x3 r0_2) (View.ld x4 r0_2) (View.ld x5 r0_2)⟩]

/-- Its stores tile the buffer (checked by evaluation), so they cover it. -/
theorem cover0_6 (p0 : Vec F S1x1x1000x8 .bf16) (p1 : Vec F S1x1x1000x8 .bf16) (p2 : Vec F S1x1x1000x8 .bf16) (p3 : Vec F S1x1x1000x8 .bf16) (p4 : Vec F S1x1x1000x8 .bf16) (y : S5x1x1000x8.Idx) :
    ∃ pc ∈ ([⟨r0_16, p0⟩, ⟨r0_13, p1⟩, ⟨r0_10, p2⟩, ⟨r0_7, p3⟩, ⟨r0_4, p4⟩] : List (View.Piece (Elt F) S5x1x1000x8 .bf16)), y ∈ pc.1.set :=
  View.cover_of_tiled [⟨r0_16, p0⟩, ⟨r0_13, p1⟩, ⟨r0_10, p2⟩, ⟨r0_7, p3⟩, ⟨r0_4, p4⟩] S1x1x1000x8.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S1x5x1000x8 .f32) (harg2 : arg2.IsWhole) (arg3 : Memref sig .tc .vmem S1x5x1000x1000 .f32) (harg3 : arg3.IsWhole) (arg4 : Memref sig .tc .vmem S8x8 .f32) (harg4 : arg4.IsWhole) (arg5 : Memref sig .tc .vmem S1x8 .f32) (harg5 : arg5.IsWhole) (arg6 : Memref sig .tc .vmem S1x8 .f32) (harg6 : arg6.IsWhole) (arg7 : Memref sig .tc .vmem S1x8 .f32) (harg7 : arg7.IsWhole) (arg8 : Memref sig .tc .vmem S5x1x1000x8 .bf16) (harg8 : arg8.IsWhole)
    (x0 : Vec F S1x5x1000x8 .f32) (x1 : Vec F S1x5x1000x1000 .f32) (x2 : Vec F S8x8 .f32) (x3 : Vec F S1x8 .f32) (x4 : Vec F S1x8 .f32) (x5 : Vec F S1x8 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0__gat_kernel i arg2 harg2 arg3 harg3 arg4 harg4 arg5 harg5 arg6 harg6 arg7 harg7 arg8 harg8) K := by
  simp only [cc0__gat_kernel_eq_skeleton]; unfold cc0__gat_kernel_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover0_6 _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.Body1.lean ====
/- Region 1 of the kernel's @main, `cc1__lstm_kernel`, up to the body's triples: the four column chunks of the input product
   that the four grid points store into the scratch, the thirty unrolled time steps and the output layer as a recursion
   (`steps`, `lstmOut`) over the whole scratch, and the body's triple at the first three points and at the last. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The recurrence, as the body spells it -/

/-- Two rows of a 60×512 array, from row `2 n` on, for each of the thirty time steps. -/
theorem step_slices (n : ℕ) (h : n < 30) : S60x512.Slices ![2 * n, 0] S2x512 := by
  refine ⟨rfl, fun a => ?_⟩
  match a with
  | ⟨0, _⟩ => show 2 * n + 2 ≤ 60; omega
  | ⟨1, _⟩ => show 0 + 512 ≤ 512; omega

/-- The four gates' hyperbolic tangents, of the step's input rows and the hidden state. -/
def gates (gx : FVec F S2x512 .f32) (whh : Vec F S512x128 .f32) (h : FVec F S2x128 .f32) : FVec F S2x512 .f32 :=
  tanh (mulf (addf gx (matmul dot_S2x128_S512x128_S2x512_1_1_0_0_n_n none h whh (constant S2x512 .f32 0x00000000#32)))
    (broadcastTo S2x512 (k1_pay8 (F := F)) broadcasts_S1x512_S2x512))

/-- The 2×128 array of halves. -/
def half2 : FVec F S2x128 .f32 := broadcast S2x128 (Scalar.ofBits .f32 0x3F000000#32)

/-- A gate off the hyperbolic tangents of its half argument, at twice its value: `tanh + 1`. -/
def plusOne (x : FVec F S2x128 .f32) : FVec F S2x128 .f32 := addf x (broadcast S2x128 (Scalar.ofBits .f32 0x3F800000#32))

/-- The next cell state. -/
def cNext (g : FVec F S2x512 .f32) (c : FVec F S2x128 .f32) : FVec F S2x128 .f32 :=
  addf (mulf (mulf half2 (plusOne (extractStridedSlice S2x128 ![0, 128] g slices_S2x512_o0_128_S2x128))) c)
    (mulf (mulf half2 (plusOne (extractStridedSlice S2x128 ![0, 0] g slices_S2x512_o0_0_S2x128)))
      (extractStridedSlice S2x128 ![0, 256] g slices_S2x512_o0_256_S2x128))

/-- The next hidden state, from the gates and the next cell state. -/
def hNext (g : FVec F S2x512 .f32) (c : FVec F S2x128 .f32) : FVec F S2x128 .f32 :=
  mulf (mulf half2 (plusOne (extractStridedSlice S2x128 ![0, 384] g slices_S2x512_o0_384_S2x128))) (tanh c)

/-- The hidden and the cell state after `n` of the thirty steps. -/
def steps (gx : FVec F S60x512 .f32) (whh : Vec F S512x128 .f32) : (n : ℕ) → n ≤ 30 → FVec F S2x128 .f32 × FVec F S2x128 .f32
  | 0, _ => (broadcast S2x128 (Scalar.ofBits .f32 0x00000000#32), broadcast S2x128 (Scalar.ofBits .f32 0x00000000#32))
  | n + 1, h =>
    (hNext (gates (extractStridedSlice S2x512 ![2 * n, 0] gx (step_slices n h)) whh (steps gx whh n (Nat.le_of_succ_le h)).1)
        (cNext (gates (extractStridedSlice S2x512 ![2 * n, 0] gx (step_slices n h)) whh (steps gx whh n (Nat.le_of_succ_le h)).1)
          (steps gx whh n (Nat.le_of_succ_le h)).2),
      cNext (gates (extractStridedSlice S2x512 ![2 * n, 0] gx (step_slices n h)) whh (steps gx whh n (Nat.le_of_succ_le h)).1)
        (steps gx whh n (Nat.le_of_succ_le h)).2)

/-- The body's output: the last hidden state of the steps over the scratch plus the bias, through the output layer. -/
def lstmOut (acc : Vec F S60x512 .f32) (whh : Vec F S512x128 .f32) (b : Vec F S1x512 .f32) (wout : Vec F S128x1000 .f32) (bout : Vec F S1x1000 .f32) : Vec F S2x1000 .f32 :=
  k1_pay6 (steps (k1_pay7 acc b) whh 30 (Nat.le_refl _)).1 wout (constant S2x1000 .f32 0x00000000#32) bout

/-! ## The body's triples -/

/-- What the scratch reads after a point's store: its column chunk put over what it held. -/
theorem scratch_put {sp : Space} (a : View sig .tc sp S60x8000 .bf16) (b : View sig .tc sp S128x8000 .f32) (d : View sig .tc sp S60x512 .f32)
    (fa : a.ty.Contents (Elt F)) (fb : b.ty.Contents (Elt F)) (fd : d.ty.Contents (Elt F)) (off : Fin 2 → ℕ)
    (ha : ∀ k, (![0, 0] : Fin 2 → ℕ) k + S60x8000.size k ≤ S60x8000.size k) (hb : ∀ k, (![0, 0] : Fin 2 → ℕ) k + S128x8000.size k ≤ S128x8000.size k)
    (hd : ∀ k, off k + S60x128.size k ≤ S60x512.size k) :
    d.read (Elt F) (d.writes (Elt F) fd [⟨Rect.unit (s := S60x512) off S60x128.size hd,
        k1_pay2 (a.readAt (Elt F) (Rect.unit (s := S60x8000) ![0, 0] S60x8000.size ha).toLoadRect fa)
          (b.readAt (Elt F) (Rect.unit (s := S128x8000) ![0, 0] S128x8000.size hb).toLoadRect fb)⟩])
      = VecWindow.put (d.read (Elt F) fd) off S60x128.size (k1_pay2 (a.read (Elt F) fa) (b.read (Elt F) fb)) := by
  refine (View.read_writes_cons_put d fd hd _ [] rfl).trans ?_
  rw [View.writes_nil, View.readAt_full, View.readAt_full]

set_option maxHeartbeats 4000000 in
/-- The body at each of the first three points (`i 0 = k < 3`): the scratch gets column chunk `k`, and nothing else changes. -/
theorem sound_first (c : Dev nD) (E : Set ℕ) (i : grid1.Coords) (hi : (i 0).val < 3) (arg1 : Memref sig .tc .vmem S60x8000 .bf16) (harg1 : arg1.IsWhole) (arg2 : Memref sig .tc .vmem S128x8000 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S128x1000 .f32) (harg5 : arg5.IsWhole) (arg6 : Memref sig .tc .vmem S1x1000 .f32) (harg6 : arg6.IsWhole) (arg7 : Memref sig .tc .vmem S2x1000 .f32) (harg7 : arg7.IsWhole) (arg8 : Memref sig .tc .vmem S60x512 .f32) (harg8 : arg8.IsWhole)

    (x0 : Vec F S60x8000 .bf16) (x1 : Vec F S128x8000 .f32) (x2 : Vec F S512x128 .f32) (x3 : Vec F S1x512 .f32) (x4 : Vec F S128x1000 .f32) (x5 : Vec F S1x1000 .f32) (s : Vec F S60x512 .f32) (P : Vec F S2x1000 .f32 → Prop) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, ⌜P d⌝ ∗ owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, ⌜P d⌝ ∗ owns (c : Thread nD τ) arg7 fullShare d) ∗ owns (c : Thread nD τ) arg8 fullShare (VecWindow.put s ![0, 128 * (i 0).val] S60x128.size (k1_pay2 x0 x1))) -∗ K ⟨⟩))
      ⊢ wp frame (wpE (defs₀ (F := F)) Variants.none c none) E (cc1__lstm_kernel i arg1 harg1 arg2 harg2 arg3 harg3 arg4 harg4 arg5 harg5 arg6 harg6 arg7 harg7 arg8 harg8) K := by
  simp only [cc1__lstm_kernel_eq_skeleton]; unfold cc1__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %hP, %f7, %hf7, H7⟩, ⟨%f8, %hf8, H8⟩, Hk⟩
  subst hf0 hf1 hf2 hf3 hf4 hf5 hf8
  have hk : (i 0).val = 0 ∨ (i 0).val = 1 ∨ (i 0).val = 2 := by omega
  have h3 : ¬ (Scalar.cmpi .ne (Scalar.extui (Scalar.cmpi .eq (BitVec.ofNat 32 (i 0).val) 3#32)) 0#32) = 1#1 := by rcases hk with hk | hk | hk <;> rw [hk] <;> decide
  have h4 : ¬ k1_cond5 i = 1#1 := h3
  have hw : ((Scalar.cmpi .ne (Scalar.extui (Scalar.cmpi .eq (BitVec.ofNat 32 (i 0).val) 0#32)) 0#32) = 1#1 ∧ ¬ (Scalar.cmpi .ne (Scalar.extui (Scalar.cmpi .eq (BitVec.ofNat 32 (i 0).val) 1#32)) 0#32) = 1#1 ∧ ¬ (Scalar.cmpi .ne (Scalar.extui (Scalar.cmpi .eq (BitVec.ofNat 32 (i 0).val) 2#32)) 0#32) = 1#1 ∧ (i 0).val = 0)
      ∨ (¬ (Scalar.cmpi .ne (Scalar.extui (Scalar.cmpi .eq (BitVec.ofNat 32 (i 0).val) 0#32)) 0#32) = 1#1 ∧ (Scalar.cmpi .ne (Scalar.extui (Scalar.cmpi .eq (BitVec.ofNat 32 (i 0).val) 1#32)) 0#32) = 1#1 ∧ ¬ (Scalar.cmpi .ne (Scalar.extui (Scalar.cmpi .eq (BitVec.ofNat 32 (i 0).val) 2#32)) 0#32) = 1#1 ∧ (i 0).val = 1)
      ∨ (¬ (Scalar.cmpi .ne (Scalar.extui (Scalar.cmpi .eq (BitVec.ofNat 32 (i 0).val) 0#32)) 0#32) = 1#1 ∧ ¬ (Scalar.cmpi .ne (Scalar.extui (Scalar.cmpi .eq (BitVec.ofNat 32 (i 0).val) 1#32)) 0#32) = 1#1 ∧ (Scalar.cmpi .ne (Scalar.extui (Scalar.cmpi .eq (BitVec.ofNat 32 (i 0).val) 2#32)) 0#32) = 1#1 ∧ (i 0).val = 2) := by
    rcases hk with hk | hk | hk <;> rw [hk] <;> decide
  rcases hw with ⟨h0, h1, h2, hk⟩ | ⟨h0, h1, h2, hk⟩ | ⟨h0, h1, h2, hk⟩
  all_goals
    sl_exec (disch := first | sl_exact h0 | sl_exact h1 | sl_exact h2 | sl_exact h3 | sl_exact h4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H7]
    · iexists d7; isplitr; · ipureintro; exact hP
      iexists f7; isplitr; · ipureintro; exact hf7
      iexact H7
    iexists _; isplitr
    swap; · iexact H8
    ipureintro
    rw [hk]
    exact scratch_put arg1.view arg2.view arg8.view f0 f1 f8 _ _ _ _

set_option maxHeartbeats 4000000 in
/-- The body at the last point (`i 0 = 3`): the scratch gets its last column chunk, and the output the recurrence over the whole of it. -/
theorem sound_last (c : Dev nD) (E : Set ℕ) (i : grid1.Coords) (arg1 : Memref sig .tc .vmem S60x8000 .bf16) (harg1 : arg1.IsWhole) (arg2 : Memref sig .tc .vmem S128x8000 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S128x1000 .f32) (harg5 : arg5.IsWhole) (arg6 : Memref sig .tc .vmem S1x1000 .f32) (harg6 : arg6.IsWhole) (arg7 : Memref sig .tc .vmem S2x1000 .f32) (harg7 : arg7.IsWhole) (arg8 : Memref sig .tc .vmem S60x512 .f32) (harg8 : arg8.IsWhole)
    (hc0 : ¬ (Scalar.cmpi .ne (Scalar.extui (Scalar.cmpi .eq (BitVec.ofNat 32 (i 0).val) 0#32)) 0#32) = 1#1) (hc1 : ¬ (Scalar.cmpi .ne (Scalar.extui (Scalar.cmpi .eq (BitVec.ofNat 32 (i 0).val) 1#32)) 0#32) = 1#1) (hc2 : ¬ (Scalar.cmpi .ne (Scalar.extui (Scalar.cmpi .eq (BitVec.ofNat 32 (i 0).val) 2#32)) 0#32) = 1#1) (hc3 : (Scalar.cmpi .ne (Scalar.extui (Scalar.cmpi .eq (BitVec.ofNat 32 (i 0).val) 3#32)) 0#32) = 1#1) (hc4 : k1_cond5 i = 1#1)
    (x0 : Vec F S60x8000 .bf16) (x1 : Vec F S128x8000 .f32) (x2 : Vec F S512x128 .f32) (x3 : Vec F S1x512 .f32) (x4 : Vec F S128x1000 .f32) (x5 : Vec F S1x1000 .f32) (s : Vec F S60x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (lstmOut (VecWindow.put s ![0, 384] S60x128.size (k1_pay2 x0 x1)) x2 x3 x4 x5) ∗ owns (c : Thread nD τ) arg8 fullShare (VecWindow.put s ![0, 384] S60x128.size (k1_pay2 x0 x1))) -∗ K ⟨⟩))
      ⊢ wp frame (wpE (defs₀ (F := F)) Variants.none c none) E (cc1__lstm_kernel i arg1 harg1 arg2 harg2 arg3 harg3 arg4 harg4 arg5 harg5 arg6 harg6 arg7 harg7 arg8 harg8) K := by
  simp only [cc1__lstm_kernel_eq_skeleton]; unfold cc1__lstm_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0 hf1 hf2 hf3 hf4 hf5 hf8
  sl_exec (disch := first | sl_exact hc0 | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (View.read_writes_full arg7.view f7 inb_S2x1000_S2x1000_0_0 _ []).trans ?_
    rw [← scratch_put arg1.view arg2.view arg8.view f0 f1 f8 ![0, 384] inb_S60x8000_S60x8000_0_0 inb_S128x8000_S128x8000_0_0 inb_S60x512_S60x128_0_384,
      ← View.readAt_full arg8.view _ inb_S60x512_S60x512_0_0, ← View.readAt_full arg3.view f2 inb_S512x128_S512x128_0_0,
      ← View.readAt_full arg4.view f3 inb_S1x512_S1x512_0_0, ← View.readAt_full arg5.view f4 inb_S128x1000_S128x1000_0_0,
      ← View.readAt_full arg6.view f5 inb_S1x1000_S1x1000_0_0]
    chain_rfl
  iexists _; isplitr
  swap; · iexact H8
  ipureintro
  exact scratch_put arg1.view arg2.view arg8.view f0 f1 f8 _ _ _ _

end Cert.KernelIdeal.Hand

end
-- ==== Proof.Region1.lean ====
/- Region 1 of the kernel's @main over its four grid points: the block each window holds, the scratch's contents point by
   point (`Filled`: the chunks stored so far are those of `seqW`), and the pipeline's proof data and obligation. The output's
   block is named at the last point, the only one that writes it back. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pointwise.Index
public import proofs.«01_k».proof.Proof.Body1
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The scratch -/

/-- The grid point whose column chunk holds column `k`. -/
def chunkPt (k : Fin 512) : Fin cfg1.N := ⟨k.val / 128, by have := k.isLt; show _ < grid1.N; rw [N_1]; omega⟩

/-- The scratch when it is full: at column `k`, the product of point `k / 128`'s two blocks, at column `k % 128`. -/
def seqW (c : Dev nD) : Vec F S60x512 .f32 := fun y =>
  k1_pay2 (iblk1 V c 0 (chunkPt (y 1))) (iblk1 V c 1 (chunkPt (y 1))) (ix2 (n0 := 60) (n1 := 128) (y 0) ⟨(y 1).val % 128, Nat.mod_lt _ (by decide)⟩)

/-- The scratch holds `seqW` up to column `128 k`. -/
def Filled (c : Dev nD) (k : ℕ) (s : Vec F S60x512 .f32) : Prop := ∀ y, (y 1).val < 128 * k → s y = seqW V c y

/-- A point's store takes the filled part one chunk further. -/
theorem Filled.put {c : Dev nD} {t : Fin cfg1.N} {s : Vec F S60x512 .f32} (h : Filled V c t.val s) :
    Filled V c (t.val + 1) (VecWindow.put s ![0, 128 * t.val] S60x128.size (k1_pay2 (iblk1 V c 0 t) (iblk1 V c 1 t))) := by
  intro y hy
  unfold VecWindow.put
  by_cases h1 : 128 * t.val ≤ (y 1).val
  · have hm : ∀ a : Fin 2, (![0, 128 * t.val] : Fin 2 → ℕ) a ≤ (y a).val ∧ (y a).val < (![0, 128 * t.val] : Fin 2 → ℕ) a + S60x128.size a := by
      intro a
      match a with
      | ⟨0, _⟩ => exact ⟨Nat.zero_le _, by have := (y 0).isLt; show (y 0).val < 0 + 60; simpa using this⟩
      | ⟨1, _⟩ => exact ⟨h1, by show (y 1).val < 128 * t.val + 128; omega⟩
    rw [dif_pos hm]
    have ht : chunkPt (y 1) = t := Fin.ext (by show (y 1).val / 128 = t.val; omega)
    unfold seqW
    rw [ht]
    refine congrArg _ (funext fun a => ?_)
    match a with
    | ⟨0, _⟩ => exact Fin.ext (by show (y 0).val - 0 = (y 0).val; omega)
    | ⟨1, _⟩ => exact Fin.ext (by show (y 1).val - 128 * t.val = (y 1).val % 128; omega)
  · rw [dif_neg (fun hm => h1 (hm 1).1)]
    exact h y (by omega)

theorem Filled.full {c : Dev nD} {s : Vec F S60x512 .f32} (h : Filled V c 4 s) : s = seqW V c :=
  funext fun y => h y (by have : (y 1).val < 512 := (y 1).isLt; omega)

/-! ## The pipeline's proof data -/

/-- The scratch operand: a whole scoped buffer of the kernel's own. -/
abbrev scM1 : Memref sig .tc .vmem S60x512 .f32 := Memref.whole cc1_scratch0

/-- The other scoped buffers beside region 1's own staging, region 0's staging buffers: each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant with the scratch as a memref owned at some contents. -/
theorem PhiA1_eq (c : Dev nD) :
    (Pipeline.ΦA spec1 c : sProp 𝕄) = iprop(((∃ d, owns (c : Thread nD τ) scM1 fullShare d) ∗ others1 c) ∗ (∃ r, prngReg c r)) := by
  unfold Pipeline.ΦA
  rw [Pipeline.scopedRest_eq_of_list spec1 c [cc1_scratch0, cc0_stg0_0, cc0_stg0_1, cc0_stg1_0, cc0_stg1_1, cc0_stg2_0, cc0_stg3_0, cc0_stg4_0, cc0_stg5_0, cc0_stg6_0, cc0_stg6_1] (by decide) (by decide)]
  unfold others1
  simp only [scM1, owns_whole]
  rfl

/-- The proof data of pipeline 1 on core `c`: the arrays as the region finds them; each input's buffer left at its block; the
    output's at the recurrence over the full scratch (stated at every point, met at the last); the scratch filled up to the
    point's chunk, and the generator register at some state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => lstmOut (seqW V c) (iblk1 V c 2 t) (iblk1 V c 3 t) (iblk1 V c 4 t) (iblk1 V c 5 t)
  Φ k := iprop((∃ s, ⌜Filled V c k.val s⌝ ∗ owns (c : Thread nD τ) scM1 fullShare s) ∗ others1 c ∗ (∃ r, prngReg c r))
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = lstmOut (seqW V c) (iblk1 V c 2 t) (iblk1 V c 3 t) (iblk1 V c 4 t) (iblk1 V c 5 t) := by dsimp only [dat1]
theorem Phi1_castSucc (c : Dev nD) (t : Fin cfg1.N) : (dat1 V c).Φ t.castSucc = iprop((∃ s, ⌜Filled V c t.val s⌝ ∗ owns (c : Thread nD τ) scM1 fullShare s) ∗ others1 c ∗ (∃ r, prngReg c r)) := by
  dsimp only [dat1, Fin.val_castSucc]
theorem Phi1_succ (c : Dev nD) (t : Fin cfg1.N) : (dat1 V c).Φ t.succ = iprop((∃ s, ⌜Filled V c (t.val + 1) s⌝ ∗ owns (c : Thread nD τ) scM1 fullShare s) ∗ others1 c ∗ (∃ r, prngReg c r)) := by
  dsimp only [dat1, Fin.val_succ]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t)

theorem coord1 (t : Fin cfg1.N) : (grid1.coords t 0).val = t.val := by
  have ht : t.val < 4 := Nat.lt_of_lt_of_eq t.isLt N_1
  have e0 : (grid1.coords t 0).val = t.val / 1 % 4 := Pipeline.Grid.coords_val t 0 (by decide) rfl
  omega

/-- At the first three points the output's window is idle and not written back: its buffer is left as found. -/
theorem leaves1_first (c : Dev nD) (t : Fin cfg1.N) (ht : t.val < 3) :
    (dat1 V c).leavesExact 6 t = iprop(∃ d, owns (c : Thread nD τ) (st1_6 t) fullShare ((dat1 V c).before 6 t d)) := by
  refine (dat1 V c).leavesExact_idle 6 t ?_ ?_
  · have hc : ¬ k1_cond5 (grid1.coords t) = 1#1 := by
      unfold k1_cond5
      have : (grid1.coords t 0).val = 0 ∨ (grid1.coords t 0).val = 1 ∨ (grid1.coords t 0).val = 2 := by rw [coord1]; omega
      rcases this with h | h | h <;> rw [h] <;> decide
    show (!(k1_cond5 (grid1.coords t) == 1#1)) = true
    simp [hc]
  · refine Bool.eq_false_iff.mpr fun h => ?_
    have := (flush1_6 t).mp h
    omega

/-- At the last point the output's block is the recurrence over the full scratch. -/
theorem leaves1_last (c : Dev nD) (t : Fin cfg1.N) (ht : t.val = 3) :
    (dat1 V c).leavesExact 6 t = owns (c : Thread nD τ) (st1_6 t) fullShare ((dat1 V c).after 6 t) := by
  have hi : cfg1.idle 6 (cfg1.grid.coords t) = false := by
    have hc : k1_cond5 (grid1.coords t) = 1#1 := by
      unfold k1_cond5; rw [coord1, ht]; decide
    show (!(k1_cond5 (grid1.coords t) == 1#1)) = false
    simp [hc]
  unfold Dat.leavesExact; rw [hi]

set_option maxHeartbeats 1000000 in
/-- The body at any point: the inputs' memrefs hold their blocks, the scratch is filled one chunk further, and the output's
    buffer is left as found, or at the last point at the recurrence over the full scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [Phi1_castSucc, Phi1_succ, show (dat1 V c).owesAt () t.succ = (dat1 V c).owesAt () t.castSucc from rfl,
    after1_0, after1_1, after1_2, after1_3, after1_4, after1_5]
  have hN : t.val < 4 := lt_of_lt_of_eq t.isLt N_1
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  by_cases ht : t.val < 3
  · rw [leaves1_first V c t ht]
    iapply (sound_first c Set.univ (grid1.coords t) (by rw [coord1]; exact ht) _ _ _ _ _ _ _ _ _ _ _ _ _ _ _ _ (iblk1 V c 0 t) (iblk1 V c 1 t) (iblk1 V c 2 t) (iblk1 V c 3 t) (iblk1 V c 4 t) (iblk1 V c 5 t) s (fun X => ∃ d, X = (dat1 V c).before 6 t d) _)
    isplitl [H0]; · iexact H0
    isplitl [H1]; · iexact H1
    isplitl [H2]; · iexact H2
    isplitl [H3]; · iexact H3
    isplitl [H4]; · iexact H4
    isplitl [H5]; · iexact H5
    isplitl [H6]
    · iexists _; isplitr
      swap; · iexact H6
      ipureintro; exact ⟨d6, rfl⟩
    isplitl [HS]; · iexact HS
    iintro ⟨H0, H1, H2, H3, H4, H5, ⟨%X, %hX, H6⟩, HS⟩
    obtain ⟨d, rfl⟩ := hX
    isplitl [HS Hg]
    · isplitl [HS]
      · iexists _; isplitr
        swap; · iexact HS
        ipureintro
        rw [coord1]; exact hs.put V
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d; iexact H6
  · have h3 : t.val = 3 := by omega
    have hput : VecWindow.put s ![0, 384] S60x128.size (k1_pay2 (iblk1 V c 0 t) (iblk1 V c 1 t)) = seqW V c := by
      have := hs.put V
      rw [h3] at this
      exact this.full V
    rw [leaves1_last V c t h3, after1_6, ← hput]
    iapply (sound_last c Set.univ (grid1.coords t) _ _ _ _ _ _ _ _ _ _ _ _ _ _ _ _ (by rw [coord1, h3]; decide) (by rw [coord1, h3]; decide) (by rw [coord1, h3]; decide) (by rw [coord1, h3]; decide) (by unfold k1_cond5; rw [coord1, h3]; decide) (iblk1 V c 0 t) (iblk1 V c 1 t) (iblk1 V c 2 t) (iblk1 V c 3 t) (iblk1 V c 4 t) (iblk1 V c 5 t) s _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]
      · iexists _; isplitr
        swap; · iexact HS
        ipureintro
        rw [hput, h3]; exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand

end
-- ==== Proof.Run.lean ====
/- The kernel's whole run: @main as a host stretch, region 0, a host stretch and region 1, the buffers' contents at each
   boundary (`W0` … `W4`), and the launch: every execution ends with the arguments as launched, the result array at what
   region 1's write-back leaves, and every semaphore counter at zero. At any float type, so for both instances. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pointwise.Index
public import proofs.«01_k».proof.Proof.Region0
public import proofs.«01_k».proof.Proof.Region1
public import Idealize.ShloMosaic.Lib.Pipeline.FrameSuffix
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0, main_call0_v1, main_call0_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v4, main_call0_v5, main_call0_v6, main_call0_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

/-- Region 1's invariant before its first point, from the class's: nothing of the scratch is filled yet. -/
theorem Phi1_in (V : (c : Dev nD) → (b : Ref sig .tc) → Buf (Elt F) ((c : Thread nD τ).loc b)) (c : Dev nD) :
    (Pipeline.ΦA spec1 c : sProp 𝕄) ⊢ (dat1 V c).Φ 0 := by
  rw [PhiA1_eq]
  dsimp only [dat1]
  iintro ⟨⟨⟨%s, HS⟩, HO⟩, Hp⟩
  isplitl [HS]
  · iexists s; isplitr
    swap; · iexact HS
    ipureintro; exact fun y hy => absurd hy (by simp)
  isplitl [HO]; · iexact HO
  iexact Hp

/-- Region 1's invariant after its last point gives back the class's: the scratch at some contents. -/
theorem Phi1_out (V : (c : Dev nD) → (b : Ref sig .tc) → Buf (Elt F) ((c : Thread nD τ).loc b)) (c : Dev nD) :
    (dat1 V c).Φ (Fin.last _) ⊢ (Pipeline.ΦA spec1 c : sProp 𝕄) := by
  rw [PhiA1_eq]
  dsimp only [dat1]
  iintro ⟨⟨%s, -, HS⟩, HO, Hp⟩
  isplitl [HS HO]
  · isplitl [HS]
    · iexists s; iexact HS
    iexact HO
  iexact Hp

-- `iapply` of a library lemma stated over `pin pcs a p` unifies with the pinned configuration only when unification may
-- unfold plain definitions in a metavariable's type
set_option backward.isDefEq.respectTransparency.types false in
/-- Region 0 over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_in (V3 m ρ) c)
    unfold Pipeline.ΦA
    iintro ⟨Hp, -, Hr⟩
    isplitl [Hr]; · iexact Hr
    iexact Hp
  hout c := by
    rw [Pipeline.ownSems0_none]
    refine BIBase.Entails.trans (Phi1_out (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run, at any float type: from any memory with zero counters, every weakly fair execution of @main on the TensorCores
    terminates, nothing faulting, and every final state has the argument arrays as launched, the result array at what
    region 1's pipeline leaves in it, and every semaphore counter of the machine at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_v0) = (dat1 (V3 m ρ) c).arrAt 6 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_v0 (by decide))).trans (W4_arr m ρ c 6)⟩), funext fun g => hz g (.inr (no_unscoped g.2))⟩)

end Cert.KernelIdeal.Hand

end
-- ==== Proof.Transfer.lean ====
/- The kernel over the floats' own words and the kernel over the reals are one program: the two printed texts are equal by
   computation, so the run proved at any float type is the run of both. -/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

@[expose] public section

set_option maxRecDepth 65536

noncomputable section

namespace Cert.KernelIdeal.Hand

open Cert.KernelIdeal.Gen
open Idealize.ShloMosaic Idealize.ShloMosaic.TcCoe Idealize.SL.Sem

/-- The two printed programs' function tables are one. -/
theorem defs_eq {F : FTy → Type} [FloatOps F] [Cert.Kernel.Facts] : Cert.Kernel.defs (F := F) = Cert.KernelIdeal.defs (F := F) := by chain_rfl

/-- The two printed programs' entry functions are one. -/
theorem main_eq {F : FTy → Type} [FloatOps F] [Cert.Kernel.Facts] : Cert.Kernel.main (F := F) = Cert.KernelIdeal.main (F := F) := rfl

/-- The kernel over the floats' own words runs to its arguments unchanged and every counter at zero. -/
theorem quiescent_Kernel [Cert.Kernel.Facts] : Cert.quiescent_Kernel := fun m g _ => by
  rw [defs_eq, main_eq]
  exact (θ_run Cert.KernelIdeal.defs _ _).mono (fun _ h => ⟨fun c => by
    obtain ⟨h0, h1, h2, h3, h4, h5, h6, h7, h8, h9, h10, h11, -⟩ := h.1 c
    exact ⟨h0, h1, h2, h3, h4, h5, h6, h7, h8, h9, h10, h11⟩, h.2⟩) (run (F := Bits) m g)

/-- The kernel over the reals runs to its arguments unchanged and every counter at zero. -/
theorem quiescent_KernelIdeal : Cert.quiescent_KernelIdeal := fun m g _ =>
  (θ_run Cert.KernelIdeal.defs _ _).mono (fun _ h => ⟨fun c => by
    obtain ⟨h0, h1, h2, h3, h4, h5, h6, h7, h8, h9, h10, h11, -⟩ := h.1 c
    exact ⟨h0, h1, h2, h3, h4, h5, h6, h7, h8, h9, h10, h11⟩, h.2⟩) (run (F := Ideal) m g)

/-- The reference runs to its arguments unchanged; it declares no counter. -/
theorem quiescent_ReferenceIdeal : Cert.quiescent_ReferenceIdeal := fun m g _ =>
  (θ_run Cert.ReferenceIdeal.defs _ _).mono (fun _ h => ⟨fun c => (h c).2, sem_eq_zero_of_no_sems rfl _⟩)
    (Cert.ReferenceIdeal.Value.run (F := Ideal) m g)

end Cert.KernelIdeal.Hand

end
-- ==== Proof.Math.lean ====
module

public import Idealize.ShloMosaic.PureOps.Ideal.Laws

@[expose] public section

noncomputable section

namespace Cert.KernelIdeal.Hand

open Idealize.ShloMosaic

/-- A sum of reals, taken in the extended reals, is the sum of the reals. -/
theorem sum_coe {ι : Type*} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The leaky slope `κ` below zero. -/
def leaky (κ z : ℝ) : ℝ := if 0 ≤ z then z else κ * z

/-- One row of the attention: the kernel's weights, which carry the factor `exp (-ms - md)` and are divided by their sum
    after the product with `h`, against the softmax with the row's own shift `M`, divided before it. Both are the same
    quotient, since the weight at `j0` is positive. -/
theorem attention {n : ℕ} (es h : Fin n → ℝ) (ed κ ms md M : ℝ) (mask : Fin n → Prop) [DecidablePred mask]
    (j0 : Fin n) (hj0 : mask j0) :
    Ideal.div
        (∑ j, (if mask j then
            (if -(ed : EReal) ≤ (es j : EReal) then Ideal.exp ((es j : EReal) - ms) * Ideal.exp ((ed : EReal) - md)
              else Ideal.exp ((κ : EReal) * es j - ms) * Ideal.exp ((κ : EReal) * ed - md)) else 0) * (h j : EReal))
        (∑ j, (if mask j then
            (if -(ed : EReal) ≤ (es j : EReal) then Ideal.exp ((es j : EReal) - ms) * Ideal.exp ((ed : EReal) - md)
              else Ideal.exp ((κ : EReal) * es j - ms) * Ideal.exp ((κ : EReal) * ed - md)) else 0))
      = ∑ j, Ideal.div
          (Ideal.exp ((if mask j then (if 0 ≤ (ed : EReal) + es j then (ed : EReal) + es j else κ * ((ed : EReal) + es j)) else ⊥) - M))
          (∑ k, Ideal.exp ((if mask k then (if 0 ≤ (ed : EReal) + es k then (ed : EReal) + es k else κ * ((ed : EReal) + es k)) else ⊥) - M))
          * (h j : EReal) := by
  set q : Fin n → ℝ := fun j => if mask j then Real.exp (leaky κ (ed + es j)) else 0 with hq
  have hp : ∀ j, (if mask j then
      (if -(ed : EReal) ≤ (es j : EReal) then Ideal.exp ((es j : EReal) - ms) * Ideal.exp ((ed : EReal) - md)
        else Ideal.exp ((κ : EReal) * es j - ms) * Ideal.exp ((κ : EReal) * ed - md)) else 0)
      = ((q j * Real.exp (-ms - md) : ℝ) : EReal) := by
    intro j
    by_cases hm : mask j
    · have hiff : (-(ed : EReal) ≤ (es j : EReal)) ↔ 0 ≤ ed + es j := by
        rw [← EReal.coe_neg, EReal.coe_le_coe_iff]; constructor <;> intro h <;> linarith
      simp only [hq, if_pos hm, hiff, leaky]
      split_ifs
      · rw [← EReal.coe_sub, ← EReal.coe_sub, Ideal.exp_coe, Ideal.exp_coe, ← EReal.coe_mul, ← Real.exp_add, ← Real.exp_add]
        congr 2; ring
      · rw [← EReal.coe_mul, ← EReal.coe_mul, ← EReal.coe_sub, ← EReal.coe_sub, Ideal.exp_coe, Ideal.exp_coe, ← EReal.coe_mul,
          ← Real.exp_add, ← Real.exp_add]
        congr 2; ring
    · simp [hq, hm]
  have hE : ∀ j, Ideal.exp ((if mask j then (if 0 ≤ (ed : EReal) + es j then (ed : EReal) + es j else κ * ((ed : EReal) + es j)) else ⊥) - M)
      = ((q j * Real.exp (-M) : ℝ) : EReal) := by
    intro j
    by_cases hm : mask j
    · have hiff : (0 ≤ (ed : EReal) + es j) ↔ 0 ≤ ed + es j := by
        rw [← EReal.coe_add, ← EReal.coe_zero, EReal.coe_le_coe_iff]
      simp only [hq, if_pos hm, hiff, leaky]
      split_ifs
      · rw [← EReal.coe_add, ← EReal.coe_sub, Ideal.exp_coe, ← Real.exp_add]; rfl
      · rw [← EReal.coe_add, ← EReal.coe_mul, ← EReal.coe_sub, Ideal.exp_coe, ← Real.exp_add]; rfl
    · have : (⊥ : EReal) - (M : EReal) = ⊥ := EReal.bot_sub _
      simp only [hq, if_neg hm, this, Ideal.exp_bot, zero_mul, EReal.coe_zero]
  have hS : 0 < ∑ j, q j := by
    refine Finset.sum_pos' (fun j _ => ?_) ⟨j0, Finset.mem_univ _, ?_⟩
    · simp only [hq]; split_ifs
      · exact (Real.exp_pos _).le
      · exact le_rfl
    · simp only [hq, if_pos hj0]; exact Real.exp_pos _
  simp only [hp, hE]
  simp only [← EReal.coe_mul, sum_coe, ← Finset.sum_mul]
  have e1 : (∑ j, q j) * Real.exp (-ms - md) ≠ 0 := (mul_pos hS (Real.exp_pos _)).ne'
  have e2 : (∑ j, q j) * Real.exp (-M) ≠ 0 := (mul_pos hS (Real.exp_pos _)).ne'
  simp only [Ideal.div_coe e1, Ideal.div_coe e2, ← EReal.coe_mul, sum_coe]
  congr 1
  rw [Finset.sum_mul]
  refine Finset.sum_congr rfl fun j _ => ?_
  have h1 := (Real.exp_pos (-ms - md)).ne'
  have h2 := (Real.exp_pos (-M)).ne'
  have h3 := hS.ne'
  field_simp

/-- The maximum of `⊥` and finitely many numbers, each real or `⊥` and one of them real, is real. -/
theorem fold_max_real {ι : Type*} (s : Finset ι) (f : ι → EReal) (hf : ∀ j, f j = ⊥ ∨ ∃ r : ℝ, f j = r) (j0 : ι) (hs : j0 ∈ s)
    (r0 : ℝ) (h0 : f j0 = r0) : ∃ M : ℝ, s.sup f = M := by
  have htop : s.sup f ≠ ⊤ := by
    refine ((Finset.sup_lt_iff (bot_lt_top)).2 fun j _ => ?_).ne
    rcases hf j with h | ⟨r, h⟩ <;> rw [h]
    · exact bot_lt_top
    · exact EReal.coe_lt_top r
  have hbot : s.sup f ≠ ⊥ := fun h => by
    have := Finset.le_sup (f := f) hs
    rw [h, h0] at this
    exact EReal.coe_ne_bot r0 (le_bot_iff.1 this)
  exact ⟨_, (EReal.coe_toReal htop hbot).symm⟩

/-- The logistic function by the hyperbolic tangent of half the argument, at every extended real. -/
theorem half_tanh (x : EReal) : ((1 / 2 : ℝ) : EReal) * (Ideal.tanh (x * ((1 / 2 : ℝ) : EReal)) + 1) = Ideal.div 1 (1 + Ideal.exp (-x)) := by
  rw [show Ideal.div 1 (1 + Ideal.exp (-x)) = Ideal.logistic x from rfl]
  induction x with
  | bot =>
    rw [EReal.bot_mul_coe_of_pos (by norm_num), Ideal.tanh_bot, Ideal.logistic_bot]
    have : (-1 + 1 : EReal) = 0 := by
      rw [← EReal.coe_one, ← EReal.coe_neg, ← EReal.coe_add]; norm_num
    rw [this, mul_zero]
  | top =>
    rw [EReal.top_mul_coe_of_pos (by norm_num), Ideal.tanh_top, Ideal.logistic_top]
    rw [← EReal.coe_one, ← EReal.coe_add, ← EReal.coe_mul]; norm_num
  | coe r =>
    rw [← EReal.coe_mul, Ideal.tanh_coe, Ideal.logistic_coe, ← EReal.coe_one, ← EReal.coe_add, ← EReal.coe_mul]
    congr 1
    rw [Real.tanh_eq_sinh_div_cosh, Real.sinh_eq, Real.cosh_eq]
    have e : Real.exp (-r) = Real.exp (-(r * (1 / 2))) * Real.exp (-(r * (1 / 2))) := by rw [← Real.exp_add]; congr 1; ring
    have h1 := Real.exp_pos (r * (1 / 2))
    have h2 := Real.exp_pos (-(r * (1 / 2)))
    have h3 : Real.exp (r * (1 / 2)) * Real.exp (-(r * (1 / 2))) = 1 := by rw [← Real.exp_add]; simp
    rw [e]
    generalize Real.exp (r * (1 / 2)) = a at *
    generalize Real.exp (-(r * (1 / 2))) = b at *
    have h4 : 1 + b * b ≠ 0 := by positivity
    have h5 : a + b ≠ 0 := by positivity
    field_simp
    have : a = 1 / b := by field_simp; linarith
    subst this
    field_simp
    ring

end Cert.KernelIdeal.Hand

end
-- ==== Proof.Ref.lean ====
module

public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.ReferenceIdeal.Hand

open Cert.ReferenceIdeal.Gen Cert.ReferenceIdeal.Value Idealize.ShloMosaic Idealize.ShloMosaic.TcCoe Idealize.SL.Sem
open Idealize.ShloMosaic.StableHlo

/-! ## The attention layer, as the reference states it, at an index -/

section Spec

variable (x : FVec Ideal S2x30x1000x8 .f32) (adj : FVec Ideal S2x30x1000x1000 .f32) (w : FVec Ideal S8x8 .f32)
  (asrc adst bg : FVec Ideal S8 .f32)

/-- A node's features. -/
def feat (b : Fin 2) (t : Fin 30) (n : Fin 1000) (g : Fin 8) : EReal := ∑ k : Fin 8, x (ix4 b t n k) * w (ix2 k g)

/-- A node's product with an attention vector. -/
def score (a : FVec Ideal S8 .f32) (b : Fin 2) (t : Fin 30) (n : Fin 1000) : EReal := ∑ g : Fin 8, feat x w b t n g * a (ix1 g)

/-- The slope of the leaky part, the word both programs hold. -/
def slope : EReal := Ideal.ofBits .f32 0x3E4CCCCD#32

/-- An edge's logit before the mask. -/
def edge (b : Fin 2) (t : Fin 30) (i j : Fin 1000) : EReal :=
  if 0 ≤ score x w adst b t i + score x w asrc b t j then score x w adst b t i + score x w asrc b t j
  else slope * (score x w adst b t i + score x w asrc b t j)

/-- A logit: the edge's where there is one (or `j = i`), `⊥` elsewhere. -/
def logit (b : Fin 2) (t : Fin 30) (i j : Fin 1000) : EReal :=
  if adj (ix4 b t j i) ≠ 0 ∨ j = i then edge x w asrc adst b t i j else ⊥

/-- A row's largest logit. -/
def top (b : Fin 2) (t : Fin 30) (i : Fin 1000) : EReal :=
  max ⊥ (Finset.fold max ⊥ (fun j => logit x adj w asrc adst b t i j) Finset.univ)

/-- The layer's output. -/
def gat (b : Fin 2) (t : Fin 30) (i : Fin 1000) (g : Fin 8) : EReal :=
  ∑ j, Ideal.div (Ideal.exp (logit x adj w asrc adst b t i j - top x adj w asrc adst b t i))
      (∑ k, Ideal.exp (logit x adj w asrc adst b t i k - top x adj w asrc adst b t i)) * feat x w b t j g
    + bg (ix1 g)

end Spec

/-- The word of minus infinity. -/
theorem word_bot : Ideal.ofBits .f32 0xFF800000#32 = (⊥ : EReal) := by
  simp [Ideal.ofBits, Ideal.ieee]

/-- The slope is a real number. -/
theorem slope_real : ∃ κ : ℝ, slope = (κ : EReal) := by
  simp only [slope, Ideal.ofBits, Ideal.ieee]
  exact ⟨_, rfl⟩

/-- The diagonal's test at an index. -/
theorem mask_iff (P : Prop) [Decidable P] (i j : Fin 1000) {α : Type} (a b : α) :
    Scalar.select (IntOp.ori (BitVec.ofBool (decide P)) (IntOp.cmpi CmpIPredicate.eq (BitVec.ofNat 32 i.val) (BitVec.ofNat 32 j.val))) a b
      = if P ∨ i = j then a else b := by
  have e : IntOp.cmpi CmpIPredicate.eq (BitVec.ofNat 32 i.val) (BitVec.ofNat 32 j.val) = BitVec.ofBool (decide (i = j)) := by
    show BitVec.ofBool _ = _
    congr 1
    rw [Bool.eq_iff_iff]
    simp only [beq_iff_eq, decide_eq_true_eq]
    constructor
    · intro h
      have := congrArg BitVec.toNat h
      simp only [BitVec.toNat_ofNat] at this
      rw [Nat.mod_eq_of_lt (by omega), Nat.mod_eq_of_lt (by omega)] at this
      exact Fin.ext this
    · rintro rfl; rfl
  rw [e]
  by_cases hP : P <;> by_cases hij : i = j <;> simp [hP, hij, IntOp.ori, Scalar.select]

/-- The same, the two indices the other way round. -/
theorem mask_iff_symm (P : Prop) [Decidable P] (i j : Fin 1000) {α : Type} (a b : α) :
    Scalar.select (IntOp.ori (BitVec.ofBool (decide P)) (IntOp.cmpi CmpIPredicate.eq (BitVec.ofNat 32 i.val) (BitVec.ofNat 32 j.val))) a b
      = if P ∨ j = i then a else b := by
  rw [mask_iff]; simp only [eq_comm (a := i)]

variable (V : Valuation τ sig (Elt Ideal))

/-- The exponentials of a row's logits less the largest. -/
def weights (L : FVec Ideal S2x30x1000x1000 .f32) : FVec Ideal S2x30x1000x1000 .f32 :=
  Host.exp (subf L (broadcastInDim S2x30x1000x1000 ![0, 1, 2, 3] bcast_S2x30x1000x1_S2x30x1000x1000_0_1_2_3
    (broadcastInDim S2x30x1000x1 ![0, 1, 2] bcast_S2x30x1000_S2x30x1000x1_0_1_2
      (maximumf (broadcastInDim S2x30x1000 ![] bcast_S_S2x30x1000 (constant S_ .f32 0xFF800000#32))
        (Host.reduce FloatOps.maximumf L (constant S_ .f32 0xFF800000#32) reducesTo_S2x30x1000x1000_S2x30x1000_d3 h_S_)))))

/-- The layer's output from those exponentials, the features and the bias. -/
def mixed (p : FVec Ideal S2x30x1000x1000 .f32) (h : FVec Ideal S2x30x1000x8 .f32) (bg : FVec Ideal S8 .f32) : FVec Ideal S2x30x1000x8 .f32 :=
  addf (Host.dotGeneral dot_S2x30x1000x1000_S2x30x1000x8_S2x30x1000x8_3_2_2_3_01_01 none
      (Host.divf p (broadcastInDim S2x30x1000x1000 ![0, 1, 2, 3] bcast_S2x30x1000x1_S2x30x1000x1000_0_1_2_3
        (broadcastInDim S2x30x1000x1 ![0, 1, 2] bcast_S2x30x1000_S2x30x1000x1_0_1_2
          (Host.reduceAdd p (constant S_ .f32 0x00000000#32) reducesTo_S2x30x1000x1000_S2x30x1000_d3 h_S_)))) h)
    (broadcastInDim S2x30x1000x8 ![0, 1, 2, 3] bcast_S1x1x1x8_S2x30x1000x8_0_1_2_3 (broadcastInDim S1x1x1x8 ![3] bcast_S8_S1x1x1x8_3 bg))

/-- The last stretch before the loop leaves the layer's output, time first. -/
theorem seq_eq : (after hostOps0_4 V (Proc.devRef .tc main_v45_0) : FVec Ideal S30x2x8000 .f32)
    = id (transpose S30x2x8000 [1, 0, 2] (shapeCast S2x30x8000 (mixed (weights (V (Proc.devRef .tc main_v24))) (V (Proc.devRef .tc main_v0))
        (V (Proc.devRef .tc main_arg5))) shapeCasts_S2x30x1000x8_S2x30x8000) transposes_S2x30x8000_S30x2x8000_1_0_2) := by
  after_reads_simp
  rfl

/-- A row's largest entry. -/
theorem rowMax_at (L : FVec Ideal S2x30x1000x1000 .f32) (b : Fin 2) (t : Fin 30) (i : Fin 1000) :
    Host.reduce FloatOps.maximumf L (constant S_ .f32 0xFF800000#32) reducesTo_S2x30x1000x1000_S2x30x1000_d3 h_S_ (ix3 b t i)
      = Finset.fold max (⊥ : EReal) (fun j => L (ix4 b t i j)) Finset.univ := by
  rw [Host.reduce_eq_fold, Shape.ReducesTo.fold_fiber_r4_a3, show (constant S_ .f32 0xFF800000#32 : FVec Ideal S_ .f32) (Shape.Idx.first h_S_) = ⊥ from word_bot]
  rfl

/-- `weights` at an index, around the row's largest entry `R`. -/
theorem exps_at (L : FVec Ideal S2x30x1000x1000 .f32) (R : FVec Ideal S2x30x1000 .f32) (b : Fin 2) (t : Fin 30) (i j : Fin 1000) :
    Host.exp (subf L (broadcastInDim S2x30x1000x1000 ![0, 1, 2, 3] bcast_S2x30x1000x1_S2x30x1000x1000_0_1_2_3
      (broadcastInDim S2x30x1000x1 ![0, 1, 2] bcast_S2x30x1000_S2x30x1000x1_0_1_2
        (maximumf (broadcastInDim S2x30x1000 ![] bcast_S_S2x30x1000 (constant S_ .f32 0xFF800000#32)) R)))) (ix4 b t i j)
      = Ideal.exp (L (ix4 b t i j) - max (⊥ : EReal) (R (ix3 b t i))) := by
  pointwise
  rw [word_bot]

/-- `weights` at an index. -/
theorem weights_at (L : FVec Ideal S2x30x1000x1000 .f32) (b : Fin 2) (t : Fin 30) (i j : Fin 1000) :
    weights L (ix4 b t i j)
      = Ideal.exp (L (ix4 b t i j) - max (⊥ : EReal) (Finset.fold max (⊥ : EReal) (fun j => L (ix4 b t i j)) Finset.univ)) := by
  rw [weights, exps_at, rowMax_at]

/-- `mixed` at an index. -/
theorem mixed_at (p : FVec Ideal S2x30x1000x1000 .f32) (h : FVec Ideal S2x30x1000x8 .f32) (bg : FVec Ideal S8 .f32) (b : Fin 2) (t : Fin 30)
    (i : Fin 1000) (g : Fin 8) :
    mixed p h bg (ix4 b t i g) = ((∑ x, Ideal.div (p (ix4 b t i x)) (∑ x, p (ix4 b t i x)) * h (ix4 b t x g) + bg (ix1 g) : EReal) : EReal) := by
  pointwise [mixed]

/-- The node whose features a column of the sequence holds, and which feature it is. -/
theorem flat_at (p : FVec Ideal S2x30x1000x8 .f32) (t : Fin 30) (b : Fin 2) (i : Fin 8000) :
    transpose S30x2x8000 [1, 0, 2] (shapeCast S2x30x8000 p shapeCasts_S2x30x1000x8_S2x30x8000) transposes_S2x30x8000_S30x2x8000_1_0_2 (ix3 t b i)
      = p (ix4 b t ⟨i.val / 8, by omega⟩ ⟨i.val % 8, by omega⟩) := by
  pointwise

/-- The contents before the loop, from those before the program. -/
def before : Valuation τ sig (Elt Ideal) := after hostOps0_4 (after hostOps0_3 (after hostOps0_2 (after hostOps0_1 (after hostOps0 V))))

/-- The features, as the program leaves them. -/
theorem v0_at (b : Fin 2) (t : Fin 30) (n : Fin 1000) (g : Fin 8) :
    (after hostOps0_3 (after hostOps0_2 (after hostOps0_1 (after hostOps0 V))) (Proc.devRef .tc main_v0) : FVec Ideal S2x30x1000x8 .f32) (ix4 b t n g)
      = feat (V (Proc.devRef .tc main_arg0)) (V (Proc.devRef .tc main_arg2)) b t n g := by
  after_reads_at
  rfl

/-- The logits, as the program leaves them. -/
theorem v24_at (b : Fin 2) (t : Fin 30) (i : Fin 1000) (j : Fin 1000) :
    (after hostOps0_3 (after hostOps0_2 (after hostOps0_1 (after hostOps0 V))) (Proc.devRef .tc main_v24) : FVec Ideal S2x30x1000x1000 .f32) (ix4 b t i j)
      = logit (V (Proc.devRef .tc main_arg0)) (V (Proc.devRef .tc main_arg1)) (V (Proc.devRef .tc main_arg2)) (V (Proc.devRef .tc main_arg3)) (V (Proc.devRef .tc main_arg4)) b t i j := by
  after_reads_at
  rw [show IntOp.addi (BitVec.ofNat 32 i.val) 0#32 = BitVec.ofNat 32 i.val from BitVec.add_zero _,
    show id (constant S_ FTy.f32 4286578688#32 : FVec Ideal S_ .f32) ix0 = (⊥ : EReal) from word_bot, mask_iff_symm]
  rfl

/-- The layer's output from arrays that hold the logits and the features. -/
theorem layer_at (x : FVec Ideal S2x30x1000x8 .f32) (adj : FVec Ideal S2x30x1000x1000 .f32) (w : FVec Ideal S8x8 .f32) (asrc adst bg : FVec Ideal S8 .f32)
    (L : FVec Ideal S2x30x1000x1000 .f32) (h : FVec Ideal S2x30x1000x8 .f32) (b : Fin 2) (t : Fin 30) (i : Fin 1000) (g : Fin 8)
    (hL : ∀ i j, L (ix4 b t i j) = logit x adj w asrc adst b t i j) (hh : ∀ n g, h (ix4 b t n g) = feat x w b t n g) :
    mixed (weights L) h bg (ix4 b t i g) = gat x adj w asrc adst bg b t i g := by
  rw [mixed_at]
  simp only [weights_at, hL, hh]
  rfl

/-- What the loop reads as its sequence is the attention layer's output, time first. -/
theorem seq_at (t : Fin 30) (b : Fin 2) (i : Fin 8000) :
    (before V (Proc.devRef .tc main_v45_0) : FVec Ideal S30x2x8000 .f32) (ix3 t b i)
      = gat (V (Proc.devRef .tc main_arg0)) (V (Proc.devRef .tc main_arg1)) (V (Proc.devRef .tc main_arg2)) (V (Proc.devRef .tc main_arg3))
          (V (Proc.devRef .tc main_arg4)) (V (Proc.devRef .tc main_arg5)) b t ⟨i.val / 8, by omega⟩ ⟨i.val % 8, by omega⟩ := by
  rw [before, seq_eq, id_eq, flat_at, keep_main_arg5_hostOps0_3, keep_main_arg5_hostOps0_2, keep_main_arg5_hostOps0_1, keep_main_arg5_hostOps0]
  exact layer_at _ _ _ _ _ _ _ _ b t _ _ (v24_at V b t) (v0_at V b t)

/-- The loop's weights and biases. -/
theorem weights_eq :
    before V (Proc.devRef .tc main_v45_1) = V (Proc.devRef .tc main_arg6)
      ∧ before V (Proc.devRef .tc main_v45_2) = V (Proc.devRef .tc main_arg7)
      ∧ before V (Proc.devRef .tc main_v45_3) = V (Proc.devRef .tc main_arg8)
      ∧ before V (Proc.devRef .tc main_v45_4) = V (Proc.devRef .tc main_arg9) := by
  simp only [before]
  after_reads_simp
  exact ⟨rfl, rfl, rfl, rfl⟩

/-- The loop starts from a zero hidden state, -/
theorem h_zero : (before V (Proc.devRef .tc main_v45_6) : FVec Ideal S2x128 .f32) = fun _ => (0 : EReal) := by
  simp only [before]
  after_reads_simp
  exact funext fun _ => Ideal.ofBits_zero_f32

/-- and a zero cell state. -/
theorem c_zero : (before V (Proc.devRef .tc main_v45_7) : FVec Ideal S2x128 .f32) = fun _ => (0 : EReal) := by
  simp only [before]
  after_reads_simp
  exact funext fun _ => Ideal.ofBits_zero_f32

end Cert.ReferenceIdeal.Hand

end
-- ==== Proof.Gat.lean ====
module

public import proofs.«01_k».proof.Proof.Region0
public import proofs.«01_k».proof.Proof.Math
public import proofs.«01_k».proof.Proof.Ref
public import Idealize.ShloMosaic.Lib.Pipeline.ValueKit

@[expose] public section

set_option maxRecDepth 16384

noncomputable section

namespace Cert.KernelIdeal.Hand

open Cert.KernelIdeal.Gen Idealize.ShloMosaic Idealize.ShloMosaic.TcCoe Idealize.SL.Sem

/-! ## The body's attention expression at an index -/

section Parts

variable (x : Vec Ideal S1x1x1000x8 .f32) (w : Vec Ideal S8x8 .f32) (a : Vec Ideal S1x8 .f32) (adj : Vec Ideal S1x1x1000x1000 .f32)

/-- The features. -/
theorem feat_at (n : Fin 1000) (g : Fin 8) : k0_pay2 x w (ix2 n g) = (∑ k : Fin 8, x (ix4 0 0 n k) * w (ix2 k g) : EReal) := by
  pointwise [k0_pay2]
/-- The source scores, a column. -/
theorem src_at (n : Fin 1000) : k0_pay3 x w a (ix2 n 0) = (∑ k, k0_pay2 x w (ix2 n k) * a (ix2 0 k) : EReal) := by
  pointwise [k0_pay3]
/-- The destination scores, a row. -/
theorem dst_at (n : Fin 1000) : k0_pay4 x w a (ix2 0 n) = (∑ k, a (ix2 0 k) * k0_pay2 x w (ix2 n k) : EReal) := by
  pointwise [k0_pay4]
/-- The adjacency. -/
theorem adj_at (i j : Fin 1000) : k0_pay11 adj (ix2 i j) = adj (ix4 0 0 i j) := by
  pointwise [k0_pay11]
/-- The four factors the weights are made of: each score less the largest, and the slope times it less the largest. -/
theorem src_exp_at (n : Fin 1000) : k0_pay7 x w a (ix2 n 0) = Ideal.exp (k0_pay3 x w a (ix2 n 0) - k0_pay5 x w a) := by
  pointwise [k0_pay7]
theorem src_exp'_at (n : Fin 1000) :
    k0_pay8 x w a (ix2 n 0) = Ideal.exp (Ideal.ofBits .f32 0x3E4CCCCD#32 * k0_pay3 x w a (ix2 n 0) - k0_pay5 x w a) := by
  pointwise [k0_pay8]
theorem dst_exp_at (n : Fin 1000) : k0_pay9 x w a (ix2 0 n) = Ideal.exp (k0_pay4 x w a (ix2 0 n) - k0_pay6 x w a) := by
  pointwise [k0_pay9]
theorem dst_exp'_at (n : Fin 1000) :
    k0_pay10 x w a (ix2 0 n) = Ideal.exp (Ideal.ofBits .f32 0x3E4CCCCD#32 * k0_pay4 x w a (ix2 0 n) - k0_pay6 x w a) := by
  pointwise [k0_pay10]
/-- The largest source score, and the largest destination score. -/
theorem src_max : k0_pay5 x w a = Finset.fold max (Ideal.ofBits .f32 0xFF800000#32) (fun p : Fin 1000 × Fin 1 => k0_pay3 x w a (ix2 p.1 0)) Finset.univ := by
  pointwise [k0_pay5]
theorem dst_max : k0_pay6 x w a = Finset.fold max (Ideal.ofBits .f32 0xFF800000#32) (fun p : Fin 1 × Fin 1000 => k0_pay4 x w a (ix2 0 p.2)) Finset.univ := by
  pointwise [k0_pay6]

end Parts

/-- The stored block from its parts. -/
theorem mix_at (v3 : Vec Ideal S1000x8 .f32) (v6 : Vec Ideal S1000x1 .f32) (v9 : Vec Ideal S1x1000 .f32) (v20 v25 : Vec Ideal S1000x1 .f32)
    (v28 v33 : Vec Ideal S1x1000 .f32) (v35 : Vec Ideal S1000x1000 .f32) (b : Vec Ideal S1x8 .f32) (n : Fin 1000) (g : Fin 8) :
    k0_pay12 v3 v6 v9 v20 v25 v28 v33 v35 (iota .tc S1000x1000 32 [0] iota_S1000x1000_d0_w32) b (ix4 0 0 n g)
      = (Ideal.div (∑ x, (if v35 (ix2 x n) ≠ 0 ∨ x = n then
            (if - v9 (ix2 0 n) ≤ v6 (ix2 x 0) then v20 (ix2 x 0) * v28 (ix2 0 n) else v25 (ix2 x 0) * v33 (ix2 0 n)) else 0) * v3 (ix2 x g))
          (∑ x, if v35 (ix2 x n) ≠ 0 ∨ x = n then
            (if - v9 (ix2 0 n) ≤ v6 (ix2 x 0) then v20 (ix2 x 0) * v28 (ix2 0 n) else v25 (ix2 x 0) * v33 (ix2 0 n)) else 0)
        + b (ix2 0 g) : EReal) := by
  pointwise [k0_pay12]
  simp only [Cert.ReferenceIdeal.Hand.mask_iff, zero_sub, ite_mul, zero_mul]

/-- Some real numbers add up and multiply to real numbers. -/
theorem real_dot {n : ℕ} (f h : Fin n → EReal) (hf : ∀ i, ∃ r : ℝ, f i = r) (hh : ∀ i, ∃ r : ℝ, h i = r) : ∃ r : ℝ, ∑ i, f i * h i = r := by
  choose f' hf using hf
  choose h' hh using hh
  exact ⟨∑ i, f' i * h' i, by simp only [hf, hh, ← EReal.coe_mul, sum_coe]⟩

open Cert.ReferenceIdeal.Hand (feat score slope edge logit top gat word_bot slope_real) in
/-- One graph's block is the reference's attention layer there, where the features, the weight and the attention vectors are finite. -/
theorem gatOut_at (X : FVec Ideal Cert.ReferenceIdeal.S2x30x1000x8 .f32) (ADJ : FVec Ideal Cert.ReferenceIdeal.S2x30x1000x1000 .f32)
    (W : FVec Ideal S8x8 .f32) (AS AD B : FVec Ideal Cert.ReferenceIdeal.S8 .f32) (b : Fin 2) (t : Fin 30)
    (hX : ∀ i, ∃ r : ℝ, X i = r) (hW : ∀ i, ∃ r : ℝ, W i = r) (hAS : ∀ i, ∃ r : ℝ, AS i = r) (hAD : ∀ i, ∃ r : ℝ, AD i = r)
    (x : Vec Ideal S1x1x1000x8 .f32) (adj : Vec Ideal S1x1x1000x1000 .f32) (w : Vec Ideal S8x8 .f32) (asrc adst bg : Vec Ideal S1x8 .f32)
    (hx : ∀ n k, x (ix4 0 0 n k) = X (ix4 b t n k)) (hadj : ∀ i j, adj (ix4 0 0 i j) = ADJ (ix4 b t i j)) (hw : ∀ k g, w (ix2 k g) = W (ix2 k g))
    (has : ∀ k, asrc (ix2 0 k) = AS (ix1 k)) (had : ∀ k, adst (ix2 0 k) = AD (ix1 k)) (hbg : ∀ k, bg (ix2 0 k) = B (ix1 k))
    (n : Fin 1000) (g : Fin 8) :
    gatOut x adj w asrc adst bg (ix4 0 0 n g) = gat X ADJ W AS AD B b t n g := by
  have e2 : ∀ n g, k0_pay2 x w (ix2 n g) = feat X W b t n g := fun n g => by
    rw [feat_at]; simp only [hx, hw]; rfl
  have e3 : ∀ n, k0_pay3 x w asrc (ix2 n 0) = score X W AS b t n := fun n => by
    rw [src_at]; simp only [e2, has]; rfl
  have e4 : ∀ n, k0_pay4 x w adst (ix2 0 n) = score X W AD b t n := fun n => by
    rw [dst_at]; simp only [e2, had, mul_comm (AD _)]; rfl
  have rH : ∀ n g, ∃ r : ℝ, feat X W b t n g = r := fun n g => real_dot _ _ (fun _ => hX _) (fun _ => hW _)
  have rS : ∀ n, ∃ r : ℝ, score X W AS b t n = r := fun n => real_dot _ _ (fun _ => rH _ _) (fun _ => hAS _)
  have rD : ∀ n, ∃ r : ℝ, score X W AD b t n = r := fun n => real_dot _ _ (fun _ => rH _ _) (fun _ => hAD _)
  choose H hH using rH
  choose S hS using rS
  choose D hD using rD
  obtain ⟨κ, hκ⟩ := slope_real
  have hκ' : Ideal.ofBits .f32 0x3E4CCCCD#32 = (κ : EReal) := hκ
  obtain ⟨ms, hms⟩ : ∃ r : ℝ, k0_pay5 x w asrc = r := by
    rw [src_max, word_bot]
    exact fold_max_real Finset.univ _ (fun p => .inr ⟨S p.1, by rw [e3, hS]⟩) (n, 0) (Finset.mem_univ _) (S n) (by rw [e3, hS])
  obtain ⟨md, hmd⟩ : ∃ r : ℝ, k0_pay6 x w adst = r := by
    rw [dst_max, word_bot]
    exact fold_max_real Finset.univ _ (fun p => .inr ⟨D p.2, by rw [e4, hD]⟩) (0, n) (Finset.mem_univ _) (D n) (by rw [e4, hD])
  have rE : ∀ j, ∃ r : ℝ, edge X W AS AD b t n j = r := fun j => by
    simp only [edge, hS, hD, hκ, ← EReal.coe_add, ← EReal.coe_mul]
    split
    · exact ⟨_, rfl⟩
    · exact ⟨_, rfl⟩
  obtain ⟨M, hM⟩ : ∃ r : ℝ, top X ADJ W AS AD b t n = r := by
    rw [top, max_eq_right bot_le]
    obtain ⟨r, hr⟩ := rE n
    exact fold_max_real Finset.univ _ (fun j => by
      by_cases hj : ADJ (ix4 b t j n) ≠ 0 ∨ j = n
      · exact .inr (by rw [logit, if_pos hj]; exact rE j)
      · exact .inl (by rw [logit, if_neg hj])) n (Finset.mem_univ _) r (by rw [logit, if_pos (.inr rfl)]; exact hr)
  rw [gatOut, mix_at]
  simp only [src_exp_at, src_exp'_at, dst_exp_at, dst_exp'_at, adj_at, e2, e3, e4, hadj, hbg, hS, hD, hH, hms, hmd, hκ']
  rw [gat]
  simp only [logit, edge, hM, hS, hD, hH, hκ]
  congr 1
  exact attention S (fun j => H j g) (D n) κ ms md M (fun j => ADJ (ix4 b t j n) ≠ 0 ∨ j = n) n (.inr rfl)

end Cert.KernelIdeal.Hand

end
-- ==== Proof.GatValue.lean ====
module

public import proofs.«01_k».proof.Proof.Gat

@[expose] public section

set_option maxRecDepth 16384

noncomputable section

namespace Cert.KernelIdeal.Hand

open Cert.KernelIdeal.Gen Idealize.ShloMosaic Idealize.ShloMosaic.TcCoe Idealize.SL.Sem
open Cert.ReferenceIdeal.Hand (gat)

/-- Where region 0's blocks lie. -/
theorem idx0 : ∀ t : Fin cfg0.N, win0_0.index t = ![t.val / 6, t.val % 6, 0, 0] ∧ win0_1.index t = ![t.val / 6, t.val % 6, 0, 0]
      ∧ win0_2.index t = ![0, 0] ∧ win0_3.index t = ![0, 0] ∧ win0_4.index t = ![0, 0] ∧ win0_5.index t = ![0, 0]
      ∧ win0_6.index t = ![t.val % 6, t.val / 6, 0, 0] :=
  (by decide +kernel : ∀ t : Fin grid0.N, _)

variable (V : (c : Dev nD) → (b : Ref sig .tc) → Buf (Elt Ideal) ((c : Thread nD τ).loc b)) (c : Dev nD)

/-- `gatOut_at` at any index of the block and the array's index it lands on. -/
theorem gatOut_at_of (X : FVec Ideal Cert.ReferenceIdeal.S2x30x1000x8 .f32) (ADJ : FVec Ideal Cert.ReferenceIdeal.S2x30x1000x1000 .f32)
    (W : FVec Ideal S8x8 .f32) (AS AD B : FVec Ideal Cert.ReferenceIdeal.S8 .f32)
    (hX : ∀ i, ∃ r : ℝ, X i = r) (hW : ∀ i, ∃ r : ℝ, W i = r) (hAS : ∀ i, ∃ r : ℝ, AS i = r) (hAD : ∀ i, ∃ r : ℝ, AD i = r)
    (x : Vec Ideal S1x1x1000x8 .f32) (adj : Vec Ideal S1x1x1000x1000 .f32) (w : Vec Ideal S8x8 .f32) (asrc adst bg : Vec Ideal S1x8 .f32)
    (i : S1x1x1000x8.Idx) (j : S30x2x1000x8.Idx) (h2 : (j 2).val = (i 2).val) (h3 : (j 3).val = (i 3).val)
    (hx : ∀ (n : Fin 1000) (k : Fin 8), x (ix4 0 0 n k) = X (ix4 (j 1) (j 0) n k))
    (hadj : ∀ n k : Fin 1000, adj (ix4 0 0 n k) = ADJ (ix4 (j 1) (j 0) n k)) (hw : ∀ k g : Fin 8, w (ix2 k g) = W (ix2 k g))
    (has : ∀ k : Fin 8, asrc (ix2 0 k) = AS (ix1 k)) (had : ∀ k : Fin 8, adst (ix2 0 k) = AD (ix1 k)) (hbg : ∀ k : Fin 8, bg (ix2 0 k) = B (ix1 k)) :
    gatOut x adj w asrc adst bg i = gat X ADJ W AS AD B (j 1) (j 0) (j 2) (j 3) := by
  have e : i = ix4 0 0 (j 2) (j 3) := by blk_ext
  rw [e]
  exact gatOut_at X ADJ W AS AD B (j 1) (j 0) hX hW hAS hAD x adj w asrc adst bg hx hadj hw has had hbg (j 2) (j 3)

set_option maxHeartbeats 2000000 in
/-- Region 0's output array is the reference's attention layer, where the features, the weight and the attention vectors are finite. -/
theorem gatArr (X : FVec Ideal Cert.ReferenceIdeal.S2x30x1000x8 .f32) (ADJ : FVec Ideal Cert.ReferenceIdeal.S2x30x1000x1000 .f32)
    (W : FVec Ideal S8x8 .f32) (AS AD B : FVec Ideal Cert.ReferenceIdeal.S8 .f32)
    (hX : ∀ i, ∃ r : ℝ, X i = r) (hW : ∀ i, ∃ r : ℝ, W i = r) (hAS : ∀ i, ∃ r : ℝ, AS i = r) (hAD : ∀ i, ∃ r : ℝ, AD i = r)
    (hx : V c main_arg0 = X) (hadj : V c main_arg1 = ADJ) (hw : V c main_arg2 = W)
    (has : ∀ k : Fin 8, (V c main_call0_v0 : FVec Ideal S1x8 .f32) (ix2 0 k) = AS (ix1 k))
    (had : ∀ k : Fin 8, (V c main_call0_v1 : FVec Ideal S1x8 .f32) (ix2 0 k) = AD (ix1 k))
    (hbg : ∀ k : Fin 8, (V c main_call0_v2 : FVec Ideal S1x8 .f32) (ix2 0 k) = B (ix1 k)) :
    (dat0 V c).arrAt 6 cfg0.N = fun j => gat X ADJ W AS AD B (j 1) (j 0) (j 2) (j 3) := by
  refine (dat0 V c).arrAt_eq_of_covers 6 _ (by decide +kernel) fun t hf y => ?_
  blk_simp
  rw [after0_6]
  canon_tiles x h
  all_goals
    refine gatOut_at_of X ADJ W AS AD B hX hW hAS hAD _ _ _ _ _ _ x ((win0_6.blk t).view.emb y) ?_ ?_ (fun n k => ?_) (fun n k => ?_) (fun k g => ?_)
      (fun k => ?_) (fun k => ?_) (fun k => ?_)
    · blk_simp [idx0 t]; try omega
    · blk_simp [idx0 t]; try omega
    · rw [← hx]; pointwise; blk_ext [iblk0, idx0 t]
    · rw [← hadj]; pointwise; blk_ext [iblk0, idx0 t]
    · rw [← hw]; pointwise; blk_ext [iblk0, idx0 t]
    · rw [← has]; pointwise; blk_ext [iblk0, idx0 t]
    · rw [← had]; pointwise; blk_ext [iblk0, idx0 t]
    · rw [← hbg]; pointwise; blk_ext [iblk0, idx0 t]

end Cert.KernelIdeal.Hand

end
-- ==== Proof.RefLoop.lean ====
module

public import proofs.«01_k».proof.Proof.Ref

@[expose] public section

set_option maxRecDepth 16384

noncomputable section

namespace Cert.ReferenceIdeal.Hand

open Cert.ReferenceIdeal.Gen Cert.ReferenceIdeal.Value Idealize.ShloMosaic Idealize.ShloMosaic.TcCoe Idealize.SL.Sem
open Idealize.ShloMosaic.StableHlo

variable (V : Valuation τ sig (Elt Ideal))

/-- The logistic function. -/
def sigm (x : EReal) : EReal := Ideal.div 1 (1 + Ideal.exp (-x))

/-- The contents before trip `n`: the sequence, the weights and the biases, the counter, and the two states. -/
structure At (n : ℕ) (S : FVec Ideal S30x2x8000 .f32) (Wih : FVec Ideal S512x8000 .f32) (Whh : FVec Ideal S512x128 .f32) (bih bhh : FVec Ideal S512 .f32)
    (h c : FVec Ideal S2x128 .f32) : Prop where
  seq : V (Proc.devRef .tc main_v45_0) = S
  wih : V (Proc.devRef .tc main_v45_1) = Wih
  whh : V (Proc.devRef .tc main_v45_2) = Whh
  bih : V (Proc.devRef .tc main_v45_3) = bih
  bhh : V (Proc.devRef .tc main_v45_4) = bhh
  ctr : V (Proc.devRef .tc main_v45_5) = fun _ => BitVec.ofNat 32 n
  hid : V (Proc.devRef .tc main_v45_6) = h
  cel : V (Proc.devRef .tc main_v45_7) = c

/-- A start inside the sequence is its own clamp. -/
theorem clamp_at (n : Fin 30) (f : Fin 3 → Int) (h0 : f 0 = n.val) (h1 : f 1 = 0) (h2 : f 2 = 0) :
    Host.clampedStart S30x2x8000 S1x2x8000 rfl f 0 = n.val ∧ Host.clampedStart S30x2x8000 S1x2x8000 rfl f 1 = 0
      ∧ Host.clampedStart S30x2x8000 S1x2x8000 rfl f 2 = 0 :=
  ⟨Host.clampedStart_of_le (s := S30x2x8000) (t := S1x2x8000) rfl f 0 n.val h0 (show n.val + 1 ≤ 30 by omega),
    Host.clampedStart_of_le (s := S30x2x8000) (t := S1x2x8000) rfl f 1 0 h1 (show 0 + 2 ≤ 2 by omega),
    Host.clampedStart_of_le (s := S30x2x8000) (t := S1x2x8000) rfl f 2 0 h2 (show 0 + 8000 ≤ 8000 by omega)⟩

/-- Positions whose coordinates agree are one. -/
theorem ix3_eq {n : Fin 30} {b : Fin 2} {x : Fin 8000} {p : Fin 30} {q : Fin 2} {r : Fin 8000} (hp : p.val = n.val) (hq : q.val = b.val) (hr : r.val = x.val) :
    (ix3 p q r : Shape.Idx S30x2x8000) = ix3 n b x := by
  rw [Fin.ext hp, Fin.ext hq, Fin.ext hr]

variable {V} {S : FVec Ideal S30x2x8000 .f32} {Wih : FVec Ideal S512x8000 .f32} {Whh : FVec Ideal S512x128 .f32} {bih bhh : FVec Ideal S512 .f32}
  {h c : FVec Ideal S2x128 .f32}

/-- The four gates' arguments at step `n`. -/
theorem At.gates {n : Fin 30} (H : At V n S Wih Whh bih bhh h c) (b : Fin 2) (r : Fin 512) :
    (res_main_while0b_v61 V : FVec Ideal S2x512 .f32) (ix2 b r)
      = (∑ x : Fin 8000, S (ix3 n b x) * Wih (ix2 r x) + ∑ x : Fin 128, h (ix2 b x) * Whh (ix2 r x) + bih (ix1 r) + bhh (ix1 r) : EReal) := by
  obtain ⟨rfl, rfl, rfl, rfl, rfl, hn, rfl, rfl⟩ := H
  have hc : (BitVec.ofNat 32 n.val).toInt = n.val := by
    rw [BitVec.toInt_eq_toNat_of_lt] <;> rw [BitVec.toNat_ofNat, Nat.mod_eq_of_lt (by omega)]
    omega
  pointwise [res_main_while0b_v61]
  obtain ⟨e0, e1, e2⟩ := clamp_at n (fun k => BitVec.toInt (![V (Proc.tc.devRef main_v45_5), constantI S_ 32 0#32, constantI S_ 32 0#32] k (Shape.Idx.first h_S_)))
    (by show BitVec.toInt (V (Proc.tc.devRef main_v45_5) (Shape.Idx.first h_S_)) = _; rw [hn]; exact hc) rfl rfl
  congr 3
  refine Finset.sum_congr rfl fun x _ => ?_
  congr 2
  exact ix3_eq e0 ((congrArg (· + b.val) e1).trans (zero_add _)) ((congrArg (· + x.val) e2).trans (zero_add _))

/-- The next cell state. -/
theorem At.cell {n : ℕ} (H : At V n S Wih Whh bih bhh h c) (b : Fin 2) (k : Fin 128) :
    (res_main_while0b_v87 V : FVec Ideal S2x128 .f32) (ix2 b k)
      = ((sigm ((res_main_while0b_v61 V : FVec Ideal S2x512 .f32) (ix2 b ⟨128 + k.val, by omega⟩)) * c (ix2 b k)
          + sigm ((res_main_while0b_v61 V : FVec Ideal S2x512 .f32) (ix2 b ⟨k.val, by omega⟩))
            * Ideal.tanh ((res_main_while0b_v61 V : FVec Ideal S2x512 .f32) (ix2 b ⟨256 + k.val, by omega⟩)) : EReal) : EReal) := by
  obtain ⟨rfl, rfl, rfl, rfl, rfl, hn, rfl, rfl⟩ := H
  pointwise [res_main_while0b_v87, sigm]

/-- The next hidden state. -/
theorem hidden (V : Valuation τ sig (Elt Ideal)) (b : Fin 2) (k : Fin 128) :
    (res_main_while0b_v89 V : FVec Ideal S2x128 .f32) (ix2 b k)
      = ((sigm ((res_main_while0b_v61 V : FVec Ideal S2x512 .f32) (ix2 b ⟨384 + k.val, by omega⟩))
          * Ideal.tanh ((res_main_while0b_v87 V : FVec Ideal S2x128 .f32) (ix2 b k)) : EReal) : EReal) := by
  pointwise [res_main_while0b_v89, sigm]

/-- The result. -/
theorem At.out {n : ℕ} (H : At V n S Wih Whh bih bhh h c) {W : FVec Ideal S128x1000 .f32} {B : FVec Ideal S1000 .f32}
    (hW : V (Proc.devRef .tc main_arg10) = W) (hB : V (Proc.devRef .tc main_arg11) = B) (b : Fin 2) (k : Fin 1000) :
    (out_main_v49 V : FVec Ideal S2x1000 .f32) (ix2 b k)
      = ((∑ x : Fin 128, h (ix2 b x) * W (ix2 x k)
          + B (ix1 k) : EReal) : EReal) := by
  obtain ⟨rfl, rfl, rfl, rfl, rfl, hn, rfl, rfl⟩ := H
  subst hW hB
  pointwise [out_main_v49]

end Cert.ReferenceIdeal.Hand

end
-- ==== Proof.Lstm.lean ====
/- The kernel's recurrence over the ideal instance is the reference's: each of its unrolled steps, taken at an index, is the
   step of the reference's loop, and so are the states after `n` steps (`steps_at`). -/
module

public import proofs.«01_k».proof.Proof.Body1
public import proofs.«01_k».proof.Proof.Math
public import proofs.«01_k».proof.Proof.RefLoop
public import Idealize.ShloMosaic.Lib.Pipeline.ValueKit

@[expose] public section

set_option maxRecDepth 16384

noncomputable section

namespace Cert.KernelIdeal.Hand

open Cert.KernelIdeal.Gen Idealize.ShloMosaic Idealize.ShloMosaic.TcCoe Idealize.SL.Sem
open Cert.ReferenceIdeal.Hand (sigm At)

/-- The word of one half is the number. -/
theorem word_half : Ideal.ofBits .f32 1056964608#32 = (((1 / 2 : ℝ) : EReal) : EReal) := by
  simp [Ideal.ofBits, Ideal.ieee, -EReal.coe_mul]; norm_num

/-- Arrays of rank two that agree at every pair of coordinates are equal. -/
theorem ext2 {p q : ℕ} {f g : (⟨2, ![p, q]⟩ : Shape).Idx → EReal} (h : ∀ (i : Fin p) (j : Fin q), f (ix2 i j) = g (ix2 i j)) : f = g :=
  funext fun j => by rw [eq_ix2 j]; exact h _ _

/-! ## The kernel's step at an index -/

/-- The lanes `256 ≤ r < 384` are the candidate cell's. -/
theorem lane_cond (r : Fin 512) : IntOp.andi (IntOp.cmpi .sge (BitVec.ofNat 32 r.val) 256#32) (IntOp.cmpi .slt (BitVec.ofNat 32 r.val) 384#32)
    = if 256 ≤ r.val ∧ r.val < 384 then 1#1 else 0#1 := by
  revert r; decide +kernel

/-- The scale of a lane: one at the candidate cell's, one half at the gates'. -/
theorem lane_at (r : Fin 512) : k1_pay8 (F := Ideal) (ix2 0 r) = if 256 ≤ r.val ∧ r.val < 384 then (1 : EReal) else ((1 / 2 : ℝ) : EReal) := by
  pointwise [k1_pay8]
  rw [lane_cond, word_half]
  split <;> rfl

/-- The hyperbolic tangents of the gates' scaled arguments. -/
theorem gates_at (gx : FVec Ideal S2x512 .f32) (whh : Vec Ideal S512x128 .f32) (h : FVec Ideal S2x128 .f32) (b : Fin 2) (r : Fin 512) :
    gates gx whh h (ix2 b r) = Ideal.tanh ((gx (ix2 b r) + ∑ x : Fin 128, h (ix2 b x) * whh (ix2 r x))
      * if 256 ≤ r.val ∧ r.val < 384 then (1 : EReal) else ((1 / 2 : ℝ) : EReal)) := by
  rw [← lane_at]
  pointwise [gates]

/-- The next cell state. -/
theorem cNext_at (g : FVec Ideal S2x512 .f32) (c : FVec Ideal S2x128 .f32) (b : Fin 2) (k : Fin 128) :
    cNext g c (ix2 b k) = ((1 / 2 : ℝ) : EReal) * (g (ix2 b ⟨128 + k.val, by omega⟩) + 1) * c (ix2 b k)
      + ((1 / 2 : ℝ) : EReal) * (g (ix2 b ⟨k.val, by omega⟩) + 1) * g (ix2 b ⟨256 + k.val, by omega⟩) := by
  rw [← word_half]
  pointwise [cNext, half2, plusOne]

/-- The next hidden state. -/
theorem hNext_at (g : FVec Ideal S2x512 .f32) (c : FVec Ideal S2x128 .f32) (b : Fin 2) (k : Fin 128) :
    hNext g c (ix2 b k) = ((1 / 2 : ℝ) : EReal) * (g (ix2 b ⟨384 + k.val, by omega⟩) + 1) * Ideal.tanh (c (ix2 b k)) := by
  rw [← word_half]
  pointwise [hNext, half2, plusOne]

/-- The rows of step `n`. -/
theorem slice_at (gx : FVec Ideal S60x512 .f32) (n : ℕ) (hn : n < 30) (b : Fin 2) (r : Fin 512) :
    extractStridedSlice S2x512 ![2 * n, 0] gx (step_slices n hn) (ix2 b r) = gx (ix2 ⟨2 * n + b.val, by omega⟩ r) := by
  pointwise

/-- A gate: the scaled hyperbolic tangent, halved and lifted, is the logistic function of the argument. -/
theorem gate_sigm (gx : FVec Ideal S2x512 .f32) (whh : Vec Ideal S512x128 .f32) (h : FVec Ideal S2x128 .f32) (b : Fin 2) (r : Fin 512)
    (hr : ¬ (256 ≤ r.val ∧ r.val < 384)) {A : EReal} (hA : gx (ix2 b r) + ∑ x : Fin 128, h (ix2 b x) * whh (ix2 r x) = A) :
    ((1 / 2 : ℝ) : EReal) * (gates gx whh h (ix2 b r) + 1) = sigm A := by
  rw [gates_at, if_neg hr, hA]
  exact half_tanh A

/-- The candidate cell: the hyperbolic tangent of the argument. -/
theorem gate_tanh (gx : FVec Ideal S2x512 .f32) (whh : Vec Ideal S512x128 .f32) (h : FVec Ideal S2x128 .f32) (b : Fin 2) (r : Fin 512)
    (hr : 256 ≤ r.val ∧ r.val < 384) {A : EReal} (hA : gx (ix2 b r) + ∑ x : Fin 128, h (ix2 b x) * whh (ix2 r x) = A) :
    gates gx whh h (ix2 b r) = Ideal.tanh A := by
  rw [gates_at, if_pos hr, hA, mul_one]

/-! ## The loop -/

open Cert.ReferenceIdeal.Value
open Cert.ReferenceIdeal (main_v45_0 main_v45_1 main_v45_2 main_v45_3 main_v45_4 main_v45_5 main_v45_6 main_v45_7)

variable {V : Valuation Cert.ReferenceIdeal.τ Cert.ReferenceIdeal.sig (Elt Ideal)} {S : FVec Ideal Cert.ReferenceIdeal.S30x2x8000 .f32}
  {Wih : FVec Ideal S512x8000 .f32} {Whh : FVec Ideal S512x128 .f32} {bih bhh : FVec Ideal Cert.ReferenceIdeal.S512 .f32} {gx : FVec Ideal S60x512 .f32}

/-- A trip of the reference's loop takes the kernel's step. -/
theorem step_at {h c : FVec Ideal S2x128 .f32} {n : ℕ} (hn : n < 30) (H : At V n S Wih Whh bih bhh h c)
    (hgx : ∀ b r, gx (ix2 ⟨2 * n + b.val, by omega⟩ r) = (∑ x : Fin 8000, S (ix3 ⟨n, hn⟩ b x) * Wih (ix2 r x)) + (bih (ix1 r) + bhh (ix1 r))) :
    At (STEP V) (n + 1) S Wih Whh bih bhh
      (hNext (gates (extractStridedSlice S2x512 ![2 * n, 0] gx (step_slices n hn)) Whh h) (cNext (gates (extractStridedSlice S2x512 ![2 * n, 0] gx (step_slices n hn)) Whh h) c))
      (cNext (gates (extractStridedSlice S2x512 ![2 * n, 0] gx (step_slices n hn)) Whh h) c) := by
  have hg : ∀ b r, extractStridedSlice S2x512 ![2 * n, 0] gx (step_slices n hn) (ix2 b r) + ∑ x : Fin 128, h (ix2 b x) * Whh (ix2 r x)
      = (res_main_while0b_v61 V : FVec Ideal S2x512 .f32) (ix2 b r) := by
    intro b r
    rw [slice_at gx n hn, hgx]
    refine Eq.trans ?_ (At.gates (n := ⟨n, hn⟩) H b r).symm
    ac_rfl
  have hc : (res_main_while0b_v87 V : FVec Ideal S2x128 .f32) = cNext (gates (extractStridedSlice S2x512 ![2 * n, 0] gx (step_slices n hn)) Whh h) c := by
    refine ext2 (p := 2) (q := 128) fun b k => ?_
    rw [cNext_at, gate_sigm _ _ _ _ _ (by show ¬ (256 ≤ 128 + k.val ∧ _); omega) (hg _ _), gate_sigm _ _ _ _ _ (by show ¬ (256 ≤ k.val ∧ _); omega) (hg _ _),
      gate_tanh _ _ _ _ _ (by show 256 ≤ 256 + k.val ∧ 256 + k.val < 384; omega) (hg _ _)]
    exact H.cell b k
  refine ⟨(STEP_main_v45_0 V).trans H.seq, (STEP_main_v45_1 V).trans H.wih, (STEP_main_v45_2 V).trans H.whh, (STEP_main_v45_3 V).trans H.bih,
    (STEP_main_v45_4 V).trans H.bhh, (STEP_main_v45_5 V).trans ?_, (STEP_main_v45_6 V).trans ?_, (STEP_main_v45_7 V).trans hc⟩
  · funext j
    show BitVec.add ((V (Proc.devRef .tc main_v45_5)) j) 1#32 = _
    rw [H.ctr]
    exact (BitVec.ofNat_add n 1).symm
  · refine ext2 (p := 2) (q := 128) fun b k => ?_
    rw [hNext_at, gate_sigm _ _ _ _ _ (by show ¬ (256 ≤ 384 + k.val ∧ 384 + k.val < 384); omega) (hg _ _), ← hc]
    exact Cert.ReferenceIdeal.Hand.hidden V b k

/-- The states before trip `n` of the reference's loop are the kernel's after `n` steps. -/
theorem steps_at (H : At V 0 S Wih Whh bih bhh (fun _ => (0 : EReal)) (fun _ => (0 : EReal)))
    (hgx : ∀ (n : Fin 30) b r, gx (ix2 ⟨2 * n.val + b.val, by omega⟩ r) = (∑ x : Fin 8000, S (ix3 n b x) * Wih (ix2 r x)) + (bih (ix1 r) + bhh (ix1 r))) :
    ∀ (n : ℕ) (hn : n ≤ 30), At (STEP^[n] V) n S Wih Whh bih bhh (steps gx Whh n hn).1 (steps gx Whh n hn).2
  | 0, hn => by
    have h0 : (broadcast S2x128 (Scalar.ofBits .f32 0x00000000#32) : FVec Ideal S2x128 .f32) = fun _ => (0 : EReal) := funext fun _ => Ideal.ofBits_zero_f32
    show At V 0 S Wih Whh bih bhh (broadcast S2x128 (Scalar.ofBits .f32 0x00000000#32)) (broadcast S2x128 (Scalar.ofBits .f32 0x00000000#32))
    rw [h0]; exact H
  | n + 1, hn => by
    rw [Function.iterate_succ_apply']
    exact step_at hn (steps_at H hgx n (Nat.le_of_succ_le hn)) (hgx ⟨n, hn⟩)

/-- The output layer at an index. -/
theorem lstmOut_at (acc : Vec Ideal S60x512 .f32) (whh : Vec Ideal S512x128 .f32) (bb : Vec Ideal S1x512 .f32) (wout : Vec Ideal S128x1000 .f32) (bout : Vec Ideal S1x1000 .f32)
    (b : Fin 2) (k : Fin 1000) : lstmOut acc whh bb wout bout (ix2 b k)
      = ∑ x : Fin 128, (steps (k1_pay7 acc bb) whh 30 (Nat.le_refl _)).1 (ix2 b x) * wout (ix2 x k) + bout (ix2 0 k) := by
  unfold lstmOut
  generalize (steps (k1_pay7 acc bb) whh 30 (Nat.le_refl _)).1 = h
  pointwise [k1_pay6]

/-- The scratch with the biases added, at an index. -/
theorem biased_at (acc : Vec Ideal S60x512 .f32) (bb : Vec Ideal S1x512 .f32) (p : Fin 60) (r : Fin 512) :
    k1_pay7 acc bb (ix2 p r) = (acc (ix2 p r) + bb (ix2 0 r) : EReal) := by
  pointwise [k1_pay7]

/-- A column chunk of the input product at an index. -/
theorem chunk_at (x : Vec Ideal S60x8000 .bf16) (w : Vec Ideal S128x8000 .f32) (p : Fin 60) (r : Fin 128) :
    k1_pay2 x w (ix2 p r) = (∑ k : Fin 8000, x (ix2 p k) * w (ix2 r k) : EReal) := by
  pointwise [k1_pay2, k1_pay1]

end Cert.KernelIdeal.Hand

end
-- ==== Proof.LstmValue.lean ====
/- Region 1's output array is the reference's result: the whole scratch is the input product, its blocks are read off the arrays,
   and the reference's loop is followed by `steps_at`. -/
module

public import proofs.«01_k».proof.Proof.Region1
public import proofs.«01_k».proof.Proof.Lstm

@[expose] public section

set_option maxRecDepth 16384

noncomputable section

namespace Cert.KernelIdeal.Hand

open Cert.KernelIdeal.Gen Idealize.ShloMosaic Idealize.ShloMosaic.TcCoe Idealize.SL.Sem
open Cert.ReferenceIdeal.Hand (At)

/-- Where region 1's blocks lie. -/
theorem idx1 : ∀ t : Fin cfg1.N, win1_0.index t = ![0, 0] ∧ win1_1.index t = ![t.val, 0] ∧ win1_2.index t = ![0, 0] ∧ win1_3.index t = ![0, 0]
      ∧ win1_4.index t = ![0, 0] ∧ win1_5.index t = ![0, 0] ∧ win1_6.index t = ![0, 0] :=
  (by decide +kernel : ∀ t : Fin grid1.N, _)

variable (V : (c : Dev nD) → (b : Ref sig .tc) → Buf (Elt Ideal) ((c : Thread nD τ).loc b)) (c : Dev nD)

/-- The sequence's block is the whole array. -/
theorem blk1_0 (t : Fin cfg1.N) {X : FVec Ideal S60x8000 .bf16} (h : V c main_call0_v4 = X) (p : Fin 60) (k : Fin 8000) :
    iblk1 V c 0 t (ix2 (n0 := 60) (n1 := 8000) p k) = X (ix2 p k) := by
  rw [← h]; blk_ext [iblk1, idx1 t]

/-- The input weight's block is its 128 rows from `128 t` on. -/
theorem blk1_1 (t : Fin cfg1.N) {X : FVec Ideal S512x8000 .f32} (h : V c main_arg6 = X) (p : Fin 128) (k : Fin 8000) (r : Fin 512) (hr : r.val = 128 * t.val + p.val) :
    iblk1 V c 1 t (ix2 (n0 := 128) (n1 := 8000) p k) = X (ix2 r k) := by
  rw [← h]; blk_ext [iblk1, idx1 t]

/-- The recurrent weight's block is the whole array. -/
theorem blk1_2 (t : Fin cfg1.N) {X : FVec Ideal S512x128 .f32} (h : V c main_arg7 = X) (p : Fin 512) (k : Fin 128) :
    iblk1 V c 2 t (ix2 (n0 := 512) (n1 := 128) p k) = X (ix2 p k) := by
  rw [← h]; blk_ext [iblk1, idx1 t]

/-- The bias's block is the whole row. -/
theorem blk1_3 (t : Fin cfg1.N) {X : FVec Ideal S1x512 .f32} (h : V c main_call0_v6 = X) (k : Fin 512) :
    iblk1 V c 3 t (ix2 (n0 := 1) (n1 := 512) 0 k) = X (ix2 0 k) := by
  rw [← h]; blk_ext [iblk1, idx1 t]

/-- The output weight's block is the whole array. -/
theorem blk1_4 (t : Fin cfg1.N) {X : FVec Ideal S128x1000 .f32} (h : V c main_arg10 = X) (p : Fin 128) (k : Fin 1000) :
    iblk1 V c 4 t (ix2 (n0 := 128) (n1 := 1000) p k) = X (ix2 p k) := by
  rw [← h]; blk_ext [iblk1, idx1 t]

/-- The output bias's block is the whole row. -/
theorem blk1_5 (t : Fin cfg1.N) {X : FVec Ideal S1x1000 .f32} (h : V c main_call0_v7 = X) (k : Fin 1000) :
    iblk1 V c 5 t (ix2 (n0 := 1) (n1 := 1000) 0 k) = X (ix2 0 k) := by
  rw [← h]; blk_ext [iblk1, idx1 t]

/-- The whole scratch is the input product. -/
theorem seqW_at {X : FVec Ideal S60x8000 .bf16} {W : FVec Ideal S512x8000 .f32} (hx : V c main_call0_v4 = X) (hw : V c main_arg6 = W) (p : Fin 60) (r : Fin 512) :
    seqW V c (ix2 (n0 := 60) (n1 := 512) p r) = (∑ k : Fin 8000, X (ix2 p k) * W (ix2 r k) : EReal) := by
  unfold seqW
  refine (chunk_at _ _ p ⟨r.val % 128, Nat.mod_lt _ (by decide)⟩).trans (Finset.sum_congr rfl fun k _ => ?_)
  exact congrArg₂ (fun a b : EReal => a * b) (blk1_0 V c _ hx p k) (blk1_1 V c _ hw _ k r (by show r.val = 128 * (r.val / 128) + r.val % 128; omega))

/-- Region 1's output array is the reference's result after its loop, where the arrays it reads are the loop's. -/
theorem lstmArr {R : Valuation Cert.ReferenceIdeal.τ Cert.ReferenceIdeal.sig (Elt Ideal)} {S : FVec Ideal Cert.ReferenceIdeal.S30x2x8000 .f32}
    {Wih : FVec Ideal S512x8000 .f32} {Whh : FVec Ideal S512x128 .f32} {bih bhh : FVec Ideal Cert.ReferenceIdeal.S512 .f32}
    {Wo : FVec Ideal S128x1000 .f32} {Bo : FVec Ideal Cert.ReferenceIdeal.S1000 .f32}
    (H : At R 0 S Wih Whh bih bhh (fun _ => (0 : EReal)) (fun _ => (0 : EReal)))
    (hS : ∀ (n : Fin 30) (b : Fin 2) (k : Fin 8000), (V c main_call0_v4 : FVec Ideal S60x8000 .bf16) (ix2 ⟨2 * n.val + b.val, by omega⟩ k) = S (ix3 n b k))
    (hih : V c main_arg6 = Wih) (hhh : V c main_arg7 = Whh)
    (hb : ∀ r : Fin 512, (V c main_call0_v6 : FVec Ideal S1x512 .f32) (ix2 0 r) = (bih (ix1 r) + bhh (ix1 r) : EReal))
    (ho : V c main_arg10 = Wo) (hbo : ∀ k : Fin 1000, (V c main_call0_v7 : FVec Ideal S1x1000 .f32) (ix2 0 k) = Bo (ix1 k))
    (hRo : (Cert.ReferenceIdeal.Value.STEP^[30] R) (Proc.devRef .tc Cert.ReferenceIdeal.main_arg10) = Wo)
    (hRb : (Cert.ReferenceIdeal.Value.STEP^[30] R) (Proc.devRef .tc Cert.ReferenceIdeal.main_arg11) = Bo) :
    (dat1 V c).arrAt 6 cfg1.N = Cert.ReferenceIdeal.Value.out_main_v49 (Cert.ReferenceIdeal.Value.STEP^[30] R) := by
  refine (dat1 V c).arrAt_eq_of_after_last 6 t1_3 (by decide +kernel) _ fun j => ?_
  blk_simp
  rw [after1_6]
  refine congrFun (ext2 (p := 2) (q := 1000) fun b k => ?_) j
  rw [lstmOut_at, show iblk1 V c 2 t1_3 = Whh from ext2 (p := 512) (q := 128) fun p k => blk1_2 V c _ hhh p k]
  have hst := steps_at (gx := k1_pay7 (seqW V c) (iblk1 V c 3 t1_3)) H (fun n b r => by
    rw [biased_at, seqW_at V c rfl hih, blk1_3 V c _ rfl, hb]
    refine congrArg (fun a : EReal => a + (bih (ix1 r) + bhh (ix1 r))) (Finset.sum_congr rfl fun k _ => ?_)
    rw [hS]) 30 (Nat.le_refl _)
  refine Eq.trans ?_ (hst.out hRo hRb b k).symm
  rw [blk1_5 V c _ rfl, hbo]
  refine congrArg (fun a : EReal => a + Bo (ix1 k)) (Finset.sum_congr rfl fun x _ => ?_)
  rw [blk1_4 V c _ ho]

end Cert.KernelIdeal.Hand

end
-- ==== Proof.Value.lean ====
/- The kernel's result is the reference's: the host lines' reads before each region, region 0's array, region 1's array. -/
module

public import proofs.«01_k».proof.Defs
public import proofs.«01_k».proof.Proof.Run
public import proofs.«01_k».proof.Proof.GatValue
public import proofs.«01_k».proof.Proof.LstmValue

@[expose] public section

set_option maxRecDepth 16384

noncomputable section

namespace Cert.KernelIdeal.Hand

open Cert.KernelIdeal.Gen Idealize.ShloMosaic Idealize.ShloMosaic.TcCoe Idealize.SL.Sem
open Idealize.ShloMosaic.StableHlo
open Cert.ReferenceIdeal.Hand (gat At)
open Cert.ReferenceIdeal.Value (STEP preI out_main_v49 iter_main_arg10 iter_main_arg11 ctr_entry)

/-! ## The precondition -/

/-- The precondition's side conditions. -/
theorem pre_facts : Cert.Pre_attention_finite.Facts := ⟨by decide, by decide, by decide⟩

/-- The largest word is `⊤`. -/
theorem word_top : Ideal.ofBits .f32 0x7F800000#32 = (⊤ : EReal) := by
  simp [Ideal.ofBits, Ideal.ieee]

/-- An element whose magnitude is below `⊤` is a real. -/
theorem real_of_lt (x : EReal) (h : FloatOps.cmpf (F := Ideal) (φ := .f32) .olt (FloatOps.hostAbsf (F := Ideal) (φ := .f32) x) (Ideal.ofBits .f32 0x7F800000#32) = 1#1) : ∃ r : ℝ, x = r := by
  rw [word_top] at h
  induction x with
  | coe r => exact ⟨r, rfl⟩
  | bot => exact absurd h (by show ¬ Ideal.cmp .olt (max ⊥ (-⊥) : EReal) ⊤ = 1#1; simp [Ideal.cmp])
  | top => exact absurd h (by show ¬ Ideal.cmp .olt (max ⊤ (-⊤) : EReal) ⊤ = 1#1; simp [Ideal.cmp])

/-! ## The host lines -/

variable (m : (ℓ : Loc nD τ sig) → Buf (Elt Ideal) ℓ) (ρ : Dev nD → PrngReg) (c : Dev nD)

/-- The source attention vector, as a row. -/
theorem v0_at (k : Fin 8) : (V1 m ρ c main_call0_v0 : FVec Ideal S1x8 .f32) (ix2 0 k) = (m ((c.tc : Thread nD τ).loc main_arg3) : FVec Ideal S8 .f32) (ix1 k) := by
  show (after hostOps0 (W0 m ρ c) (Proc.devRef .tc main_call0_v0) : FVec Ideal S1x8 .f32) (ix2 0 k) = _
  after_reads_at

/-- The target attention vector, as a row. -/
theorem v1_at (k : Fin 8) : (V1 m ρ c main_call0_v1 : FVec Ideal S1x8 .f32) (ix2 0 k) = (m ((c.tc : Thread nD τ).loc main_arg4) : FVec Ideal S8 .f32) (ix1 k) := by
  show (after hostOps0 (W0 m ρ c) (Proc.devRef .tc main_call0_v1) : FVec Ideal S1x8 .f32) (ix2 0 k) = _
  after_reads_at

/-- The attention layer's bias, as a row. -/
theorem v2_at (k : Fin 8) : (V1 m ρ c main_call0_v2 : FVec Ideal S1x8 .f32) (ix2 0 k) = (m ((c.tc : Thread nD τ).loc main_arg5) : FVec Ideal S8 .f32) (ix1 k) := by
  show (after hostOps0 (W0 m ρ c) (Proc.devRef .tc main_call0_v2) : FVec Ideal S1x8 .f32) (ix2 0 k) = _
  after_reads_at

/-- The sequence's rows are the first region's planes. -/
theorem v4_at (V : Valuation τ sig (Elt Ideal)) (n : Fin 30) (b : Fin 2) (k : Fin 8000) :
    (after hostOps1 V (Proc.devRef .tc main_call0_v4) : FVec Ideal S60x8000 .bf16) (ix2 ⟨2 * n.val + b.val, by omega⟩ k)
      = (V (Proc.devRef .tc main_call0_v3) : FVec Ideal S30x2x1000x8 .bf16) (ix4 n b ⟨k.val / 8, by omega⟩ ⟨k.val % 8, by omega⟩) := by
  after_reads_at

/-- The recurrent layer's bias is the sum of the two. -/
theorem v6_at (V : Valuation τ sig (Elt Ideal)) (p q : FVec Ideal S512 .f32) (hp : V (Proc.devRef .tc main_arg8) = p) (hq : V (Proc.devRef .tc main_arg9) = q) (r : Fin 512) :
    (after hostOps1 V (Proc.devRef .tc main_call0_v6) : FVec Ideal S1x512 .f32) (ix2 0 r) = (p (ix1 r) + q (ix1 r) : EReal) := by
  subst hp hq
  after_reads_at

/-- The output bias, as a row. -/
theorem v7_at (V : Valuation τ sig (Elt Ideal)) (k : Fin 1000) :
    (after hostOps1 V (Proc.devRef .tc main_call0_v7) : FVec Ideal S1x1000 .f32) (ix2 0 k) = (V (Proc.devRef .tc main_arg11) : FVec Ideal S1000 .f32) (ix1 k) := by
  after_reads_at

/-- The precondition's test of an array: every element is a real. -/
theorem real_of_pre {s : Shape} (X : FVec Ideal s .f32) (h : Cert.Pre_attention_finite.S_.BroadcastsInDim s (![] : Fin 0 → Fin s.rank))
    (e : cmpf .olt (Host.absf X) (broadcastInDim s ![] h (constant (F := Ideal) Cert.Pre_attention_finite.S_ .f32 0x7F800000#32)) = fun _ => 1#1) :
    ∀ i, ∃ r : ℝ, X i = r := fun i => real_of_lt (X i) (congrFun e i)

/-! ## The results agree -/

section

variable (m' : (ℓ : Loc Cert.ReferenceIdeal.nD Cert.ReferenceIdeal.τ Cert.ReferenceIdeal.sig) → Buf (Elt Ideal) ℓ)

/-- The reference's contents at its loop. -/
theorem entry_eq : StableHlo.entryContents preI m' c = Cert.ReferenceIdeal.Hand.before (launchContents m' c) := by
  simp only [StableHlo.entryContents, afterL_cons, afterL_nil]
  rfl

/-- The reference's loop starts at the layer's output, its weights and zero states. -/
theorem entry_at : At (StableHlo.entryContents preI m' c) 0 (Cert.ReferenceIdeal.Hand.before (launchContents m' c) (Proc.devRef .tc Cert.ReferenceIdeal.main_v45_0))
    (m' ((c.tc : Thread nD τ).loc Cert.ReferenceIdeal.main_arg6)) (m' ((c.tc : Thread nD τ).loc Cert.ReferenceIdeal.main_arg7))
    (m' ((c.tc : Thread nD τ).loc Cert.ReferenceIdeal.main_arg8)) (m' ((c.tc : Thread nD τ).loc Cert.ReferenceIdeal.main_arg9))
    (fun _ => (0 : EReal)) (fun _ => (0 : EReal)) := by
  obtain ⟨h1, h2, h3, h4⟩ := Cert.ReferenceIdeal.Hand.weights_eq (launchContents m' c)
  have h5 := ctr_entry m' c
  rw [entry_eq] at h5 ⊢
  exact ⟨rfl, h1, h2, h3, h4, h5, Cert.ReferenceIdeal.Hand.h_zero _, Cert.ReferenceIdeal.Hand.c_zero _⟩

/-- From agreeing arguments, finite where the attention layer reads them, the kernel's result is the reference's. -/
theorem result_eq
    (h0 : m' ((c.tc : Thread nD τ).loc Cert.ReferenceIdeal.main_arg0) = m ((c.tc : Thread nD τ).loc main_arg0))
    (h1 : m' ((c.tc : Thread nD τ).loc Cert.ReferenceIdeal.main_arg1) = m ((c.tc : Thread nD τ).loc main_arg1))
    (h2 : m' ((c.tc : Thread nD τ).loc Cert.ReferenceIdeal.main_arg2) = m ((c.tc : Thread nD τ).loc main_arg2))
    (h3 : m' ((c.tc : Thread nD τ).loc Cert.ReferenceIdeal.main_arg3) = m ((c.tc : Thread nD τ).loc main_arg3))
    (h4 : m' ((c.tc : Thread nD τ).loc Cert.ReferenceIdeal.main_arg4) = m ((c.tc : Thread nD τ).loc main_arg4))
    (h5 : m' ((c.tc : Thread nD τ).loc Cert.ReferenceIdeal.main_arg5) = m ((c.tc : Thread nD τ).loc main_arg5))
    (h6 : m' ((c.tc : Thread nD τ).loc Cert.ReferenceIdeal.main_arg6) = m ((c.tc : Thread nD τ).loc main_arg6))
    (h7 : m' ((c.tc : Thread nD τ).loc Cert.ReferenceIdeal.main_arg7) = m ((c.tc : Thread nD τ).loc main_arg7))
    (h8 : m' ((c.tc : Thread nD τ).loc Cert.ReferenceIdeal.main_arg8) = m ((c.tc : Thread nD τ).loc main_arg8))
    (h9 : m' ((c.tc : Thread nD τ).loc Cert.ReferenceIdeal.main_arg9) = m ((c.tc : Thread nD τ).loc main_arg9))
    (h10 : m' ((c.tc : Thread nD τ).loc Cert.ReferenceIdeal.main_arg10) = m ((c.tc : Thread nD τ).loc main_arg10))
    (h11 : m' ((c.tc : Thread nD τ).loc Cert.ReferenceIdeal.main_arg11) = m ((c.tc : Thread nD τ).loc main_arg11))
    (f0 : ∀ i, ∃ r : ℝ, (m ((c.tc : Thread nD τ).loc main_arg0) : FVec Ideal Cert.ReferenceIdeal.S2x30x1000x8 .f32) i = ((r : EReal) : EReal))
    (f2 : ∀ i, ∃ r : ℝ, (m ((c.tc : Thread nD τ).loc main_arg2) : FVec Ideal S8x8 .f32) i = ((r : EReal) : EReal))
    (f3 : ∀ i, ∃ r : ℝ, (m ((c.tc : Thread nD τ).loc main_arg3) : FVec Ideal S8 .f32) i = ((r : EReal) : EReal))
    (f4 : ∀ i, ∃ r : ℝ, (m ((c.tc : Thread nD τ).loc main_arg4) : FVec Ideal S8 .f32) i = ((r : EReal) : EReal)) :
    (dat1 (V3 m ρ) c).arrAt 6 cfg1.N = out_main_v49 (STEP^[30] (StableHlo.entryContents preI m' c)) := by
  have hE := entry_at c m'
  rw [h6, h7, h8, h9] at hE
  refine lstmArr (V3 m ρ) c hE (fun n b k => ?_) (W3_args m ρ c main_arg6 (by decide)) (W3_args m ρ c main_arg7 (by decide))
    (fun r => v6_at (W2 m ρ c) _ _ (W2_args m ρ c main_arg8 (by decide)) (W2_args m ρ c main_arg9 (by decide)) r)
    (W3_args m ρ c main_arg10 (by decide)) (fun k => ?_) ((iter_main_arg10 m' c 30).trans h10) ((iter_main_arg11 m' c 30).trans h11)
  · refine (v4_at (W2 m ρ c) n b k).trans ?_
    have hG := (W2_arr m ρ c 6).trans (gatArr (V1 m ρ) c _ _ _ _ _ _ f0 f2 f3 f4 (W1_args m ρ c main_arg0 (by decide)) (W1_args m ρ c main_arg1 (by decide))
      (W1_args m ρ c main_arg2 (by decide)) (v0_at m ρ c) (v1_at m ρ c) (v2_at m ρ c))
    refine (congrFun hG _).trans (Eq.trans ?_ (Cert.ReferenceIdeal.Hand.seq_at (launchContents m' c) n b k).symm)
    simp only [launchContents_devRef, h0, h1, h2, h3, h4, h5]
    rfl
  · refine (v7_at (W2 m ρ c) k).trans ?_
    rw [W2_args m ρ c main_arg11 (by decide)]

end

/-- From agreeing arguments, finite where the attention layer reads them, the kernel and the reference over the reals end with
    equal results and unchanged arguments. -/
theorem algebraic [hp : Cert.Pre_attention_finite.Facts] : Cert.algebraic_KernelIdeal_ReferenceIdeal_pre_attention_finite := fun m g m' g' hpre hagree => by
  refine ⟨fun c => (dat1 (V3 m g) c).arrAt 6 cfg1.N, ?_, ?_⟩
  · exact (θ_run Cert.KernelIdeal.defs _ _).mono (fun _ h c => by
      obtain ⟨h0, h1, h2, h3, h4, h5, h6, h7, h8, h9, h10, h11, hv⟩ := h.1 c
      exact ⟨hv, h0, h1, h2, h3, h4, h5, h6, h7, h8, h9, h10, h11⟩) (run (F := Ideal) m g)
  · exact (θ_run Cert.ReferenceIdeal.defs _ _).mono (fun _ h c => by
      obtain ⟨hv, hargs⟩ := h c
      obtain ⟨a0, a1, a2, a3, a4, a5, a6, a7, a8, a9, a10, a11⟩ := hagree c
      obtain ⟨p0, p2, p3, p4⟩ := hpre c
      exact ⟨hv.trans (result_eq m g c m' a0 a1 a2 a3 a4 a5 a6 a7 a8 a9 a10 a11 (real_of_pre _ _ p0) (real_of_pre _ _ p2) (real_of_pre _ _ p3) (real_of_pre _ _ p4)).symm, hargs⟩)
      (Cert.ReferenceIdeal.Value.run (F := Ideal) m' g')

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Transfer
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames with the precondition stated are the frames without it; the two texts of the kernel are one, and its result over
    the reals is the reference's. -/
theorem claim : Cert.Claim := ⟨Cert.Kernel.Gen.facts, Cert.KernelIdeal.Gen.facts, Cert.ReferenceIdeal.Gen.facts, Cert.KernelIdeal.Hand.pre_facts,
  Cert.KernelIdeal.Hand.quiescent_Kernel, Cert.KernelIdeal.Hand.quiescent_KernelIdeal, fun m g _ => Cert.KernelIdeal.Hand.quiescent_KernelIdeal m g trivial,
  Cert.KernelIdeal.Hand.quiescent_ReferenceIdeal, fun m g _ => Cert.KernelIdeal.Hand.quiescent_ReferenceIdeal m g trivial, trivial,
  Cert.KernelIdeal.Hand.algebraic (hp := Cert.KernelIdeal.Hand.pre_facts)⟩

end Cert.Proof

end
